-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_params [hPre_finite_params : Cert.Pre_finite_params.Facts] (m : (ℓ : Loc Cert.KernelIdeal.nD Cert.KernelIdeal.τ Cert.KernelIdeal.sig) → Buf (Elt Ideal) ℓ) : Prop :=
  ∀ c : Dev Cert.KernelIdeal.nD,
    (Cert.Pre_finite_params.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_params [hPre_finite_params : Cert.Pre_finite_params.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_params.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_finite_params [hKernelIdeal : Cert.KernelIdeal.Facts] [hPre_finite_params : Cert.Pre_finite_params.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_params m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_finite_params [hReferenceIdeal : Cert.ReferenceIdeal.Facts] [hPre_finite_params : Cert.Pre_finite_params.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_params m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  IdealRules.named_const.Statement Cert.KernelIdeal.κ "root_times_cube" .f32 0x3D122279#32 ((80338380498831 / 2251799813685248 : ℝ) : EReal)

def algebraic_KernelIdeal_ReferenceIdeal_pre_finite_params [hKernelIdeal : Cert.KernelIdeal.Facts] [hReferenceIdeal : Cert.ReferenceIdeal.Facts] [hPre_finite_params : Cert.Pre_finite_params.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_params m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v130) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_params : Cert.Pre_finite_params.Facts),
    quiescent_Kernel (hKernel := hKernel)
    ∧ quiescent_KernelIdeal (hKernelIdeal := hKernelIdeal)
    ∧ quiescent_KernelIdeal_pre_finite_params (hKernelIdeal := hKernelIdeal) (hPre_finite_params := hPre_finite_params)
    ∧ quiescent_ReferenceIdeal (hReferenceIdeal := hReferenceIdeal)
    ∧ quiescent_ReferenceIdeal_pre_finite_params (hReferenceIdeal := hReferenceIdeal) (hPre_finite_params := hPre_finite_params)
    ∧ preserves_Kernel_KernelIdeal
    ∧ algebraic_KernelIdeal_ReferenceIdeal_pre_finite_params (hKernelIdeal := hKernelIdeal) (hReferenceIdeal := hReferenceIdeal) (hPre_finite_params := hPre_finite_params)
-- ==== Pre_finite_params.lean ====
abbrev S2x2048x1024 : Shape := ⟨3, ![2, 2048, 1024]⟩
abbrev S1x1024 : Shape := ⟨2, ![1, 1024]⟩
abbrev S1 : Shape := ⟨1, ![1]⟩
abbrev S1024 : Shape := ⟨1, ![1024]⟩
abbrev S2048x1024 : Shape := ⟨2, ![2048, 1024]⟩
abbrev S4096x1024 : Shape := ⟨2, ![4096, 1024]⟩
abbrev S4096 : Shape := ⟨1, ![4096]⟩
abbrev S1024x4096 : Shape := ⟨2, ![1024, 4096]⟩
abbrev S_ : Shape := ⟨0, ![]⟩

class Facts : Prop where
  bcast_S_S1 : S_.BroadcastsInDim S1 (![] : Fin 0 → Fin S1.rank)
  reducesTo_S1_S_d0 : S1.ReducesTo [0] S_
  h_S_ : 0 < S_.numel
  bcast_S_S1024 : S_.BroadcastsInDim S1024 (![] : Fin 0 → Fin S1024.rank)
  reducesTo_S1024_S_d0 : S1024.ReducesTo [0] S_
  bcast_S_S4096x1024 : S_.BroadcastsInDim S4096x1024 (![] : Fin 0 → Fin S4096x1024.rank)
  reducesTo_S4096x1024_S_d0_1 : S4096x1024.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg9 : FVec F S4096 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S4096 .f32 := Host.absf main_arg9
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  main_v23

def fn {F : FTy → Type} [FloatOps F] (main_arg0 : FVec F S2x2048x1024 .f32) (main_arg1 : FVec F S1x1024 .f32) (main_arg2 : FVec F S1 .f32) (main_arg3 : FVec F S1024 .f32) (main_arg4 : FVec F S1024 .f32) (main_arg5 : FVec F S2048x1024 .f32) (main_arg6 : FVec F S2048x1024 .f32) (main_arg7 : FVec F S2048x1024 .f32) (main_arg8 : FVec F S4096x1024 .f32) (main_arg9 : FVec F S4096 .f32) (main_arg10 : FVec F S1024x4096 .f32) (main_arg11 : FVec F S1024 .f32) (main_arg12 : FVec F S1024 .f32) (main_arg13 : FVec F S1024 .f32) : IVec S_ 1 :=
  let main_v0 : FVec F S1 .f32 := Host.absf main_arg2
  let main_cst : FVec F S_ .f32 := constant S_ .f32 0x7F800000#32
  let main_v1 : FVec F S1 .f32 := broadcastInDim S1 ![] bcast_S_S1 main_cst
  let main_v2 : IVec S1 1 := cmpf .olt main_v0 main_v1
  let main_c : IVec S_ 1 := constantI S_ 1 1#1
  let main_v3 : IVec S_ 1 := (fun x v => Host.reduce IntOp.andi x v reducesTo_S1_S_d0 h_S_) main_v2 main_c
  let main_v4 : FVec F S1024 .f32 := Host.absf main_arg12
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024 .f32 := Host.absf main_arg13
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S4096x1024 .f32 := Host.absf main_arg8
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg9 main_v13 main_v16
-- ==== Kernel.lean ====
abbrev S2x2048x1024 : Shape := ⟨3, ![2, 2048, 1024]⟩
abbrev S1x1024 : Shape := ⟨2, ![1, 1024]⟩
abbrev S1 : Shape := ⟨1, ![1]⟩
abbrev S1024 : Shape := ⟨1, ![1024]⟩
abbrev S2048x1024 : Shape := ⟨2, ![2048, 1024]⟩
abbrev S4096x1024 : Shape := ⟨2, ![4096, 1024]⟩
abbrev S4096 : Shape := ⟨1, ![4096]⟩
abbrev S1024x4096 : Shape := ⟨2, ![1024, 4096]⟩
abbrev S2x2048x1 : Shape := ⟨3, ![2, 2048, 1]⟩
abbrev S1x2048x1024 : Shape := ⟨3, ![1, 2048, 1024]⟩
abbrev S1x2048x1 : Shape := ⟨3, ![1, 2048, 1]⟩
abbrev S2048x256 : Shape := ⟨2, ![2048, 256]⟩
abbrev S1x256 : Shape := ⟨2, ![1, 256]⟩
abbrev S2048x1 : Shape := ⟨2, ![2048, 1]⟩
abbrev S1x2048 : Shape := ⟨2, ![1, 2048]⟩
abbrev S256x1 : Shape := ⟨2, ![256, 1]⟩
abbrev S256x2048 : Shape := ⟨2, ![256, 2048]⟩
abbrev S256 : Shape := ⟨1, ![256]⟩
abbrev S1x256x1 : Shape := ⟨3, ![1, 256, 1]⟩
abbrev S1x4096 : Shape := ⟨2, ![1, 4096]⟩
abbrev S1x512x1024 : Shape := ⟨3, ![1, 512, 1024]⟩
abbrev S1x512x1 : Shape := ⟨3, ![1, 512, 1]⟩
abbrev S512x1024 : Shape := ⟨2, ![512, 1024]⟩
abbrev S512 : Shape := ⟨1, ![512]⟩
abbrev S512x1 : Shape := ⟨2, ![512, 1]⟩
abbrev S256x256 : Shape := ⟨2, ![256, 256]⟩
abbrev S256x1024 : Shape := ⟨2, ![256, 1024]⟩
abbrev S512x4096 : Shape := ⟨2, ![512, 4096]⟩

abbrev nBuf : Space → Nat
  | .hbm => 22
  | .vmem => 21
  | .smem => 0
  | _ => 0

abbrev bufTy : (tb : Table) → Fin (tcTables nBuf tb) → BufTy
  | .hbm, ⟨0, _⟩ => ⟨S2x2048x1024, .f32⟩
  | .hbm, ⟨1, _⟩ => ⟨S1x1024, .f32⟩
  | .hbm, ⟨2, _⟩ => ⟨S1, .f32⟩
  | .hbm, ⟨3, _⟩ => ⟨S1024, .f32⟩
  | .hbm, ⟨4, _⟩ => ⟨S1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S4096x1024, .f32⟩
  | .hbm, ⟨9, _⟩ => ⟨S4096, .f32⟩
  | .hbm, ⟨10, _⟩ => ⟨S1024x4096, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S2x2048x1, .f32⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S1x4096, .f32⟩
  | .hbm, ⟨20, _⟩ => ⟨S1x1024, .f32⟩
  | .hbm, ⟨21, _⟩ => ⟨S2x2048x1024, .f32⟩
  | .local _ .vmem, ⟨0, _⟩ => ⟨S1x2048x1024, .f32⟩
  | .local _ .vmem, ⟨1, _⟩ => ⟨S1x2048x1024, .f32⟩
  | .local _ .vmem, ⟨2, _⟩ => ⟨S1x1024, .f32⟩
  | .local _ .vmem, ⟨3, _⟩ => ⟨S1x2048x1, .f32⟩
  | .local _ .vmem, ⟨4, _⟩ => ⟨S1x2048x1, .f32⟩
  | .local _ .vmem, ⟨5, _⟩ => ⟨S1x512x1024, .f32⟩
  | .local _ .vmem, ⟨6, _⟩ => ⟨S1x512x1024, .f32⟩
  | .local _ .vmem, ⟨7, _⟩ => ⟨S1x512x1024, .f32⟩
  | .local _ .vmem, ⟨8, _⟩ => ⟨S1x512x1024, .f32⟩
  | .local _ .vmem, ⟨9, _⟩ => ⟨S1x512x1, .f32⟩
  | .local _ .vmem, ⟨10, _⟩ => ⟨S1x512x1, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S4096x1024, .f32⟩
  | .local _ .vmem, ⟨16, _⟩ => ⟨S1x4096, .f32⟩
  | .local _ .vmem, ⟨17, _⟩ => ⟨S1024x4096, .f32⟩
  | .local _ .vmem, ⟨18, _⟩ => ⟨S1x1024, .f32⟩
  | .local _ .vmem, ⟨19, _⟩ => ⟨S1x512x1024, .f32⟩
  | .local _ .vmem, ⟨20, _⟩ => ⟨S1x512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg9_0 : Ref sig .tc := ⟨.vmem, 17, rfl⟩
abbrev cc1_stg10_0 : Ref sig .tc := ⟨.vmem, 18, rfl⟩
abbrev cc1_stg11_0 : Ref sig .tc := ⟨.vmem, 19, rfl⟩
abbrev cc1_stg11_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem9_0 : DmaSem sig := 17
abbrev cc1_sem10_0 : DmaSem sig := 18
abbrev cc1_sem11_0 : DmaSem sig := 19
abbrev cc1_sem11_1 : DmaSem sig := 20

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  ![arg0.toNat, v0.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x512x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S4096x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S1x4096 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 1 → Memref sig .tc .vmem S1024x4096 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false, false]

abbrev stage1_10 : Fin 1 → Memref sig .tc .vmem S1x1024 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false, false]

abbrev stage1_11 : Fin 2 → Memref sig .tc .vmem S1x512x1024 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, true]
-- ==== KernelIdeal.lean ====
variable {F : FTy → Type} [FloatOps F] [Named F]
def κ : String → Option EReal := fun
  | "root_times_cube" => some ((80338380498831 / 2251799813685248 : ℝ) : EReal)
  | _ => none
-- ==== ReferenceIdeal.lean ====
abbrev S2x2048x1024 : Shape := ⟨3, ![2, 2048, 1024]⟩
abbrev S1x1024 : Shape := ⟨2, ![1, 1024]⟩
abbrev S1 : Shape := ⟨1, ![1]⟩
abbrev S1024 : Shape := ⟨1, ![1024]⟩
abbrev S2048x1024 : Shape := ⟨2, ![2048, 1024]⟩
abbrev S4096x1024 : Shape := ⟨2, ![4096, 1024]⟩
abbrev S4096 : Shape := ⟨1, ![4096]⟩
abbrev S1024x4096 : Shape := ⟨2, ![1024, 4096]⟩
abbrev S1024x1 : Shape := ⟨2, ![1024, 1]⟩
abbrev S2x2048x1 : Shape := ⟨3, ![2, 2048, 1]⟩
abbrev S1x1x1 : Shape := ⟨3, ![1, 1, 1]⟩
abbrev S2x2048 : Shape := ⟨2, ![2, 2048]⟩
abbrev S2x512 : Shape := ⟨2, ![2, 512]⟩
abbrev S_ : Shape := ⟨0, ![]⟩
abbrev S1x1x1024 : Shape := ⟨3, ![1, 1, 1024]⟩
abbrev S2x512x1 : Shape := ⟨3, ![2, 512, 1]⟩
abbrev S2x512x1024 : Shape := ⟨3, ![2, 512, 1024]⟩
abbrev S2x1024x512 : Shape := ⟨3, ![2, 1024, 512]⟩
abbrev S2x512x512 : Shape := ⟨3, ![2, 512, 512]⟩
abbrev S2 : Shape := ⟨1, ![2]⟩
abbrev S2x1 : Shape := ⟨2, ![2, 1]⟩
abbrev S2x512x2 : Shape := ⟨3, ![2, 512, 2]⟩
abbrev S2x2048x4096 : Shape := ⟨3, ![2, 2048, 4096]⟩
abbrev S1x1x4096 : Shape := ⟨3, ![1, 1, 4096]⟩

abbrev nBuf : Space → Nat
  | .hbm => 327
  | .vmem => 0
  | .smem => 0
  | _ => 0

abbrev hbmTy0_0 (i : Nat) : BufTy := match i % 128 with
  | 0 => ⟨S2x2048x1024, .f32⟩
  | 1 => ⟨S1x1024, .f32⟩
  | 2 => ⟨S1, .f32⟩
  | 3 => ⟨S1024, .f32⟩
  | 4 => ⟨S1024, .f32⟩
  | 5 => ⟨S2048x1024, .f32⟩
  | 6 => ⟨S2048x1024, .f32⟩
  | 7 => ⟨S2048x1024, .f32⟩
  | 8 => ⟨S4096x1024, .f32⟩
  | 9 => ⟨S4096, .f32⟩
  | 10 => ⟨S1024x4096, .f32⟩
  | 11 => ⟨S1024, .f32⟩
  | 12 => ⟨S1024, .f32⟩
  | 13 => ⟨S1024, .f32⟩
  | 14 => ⟨S1024x1, .f32⟩
  | 15 => ⟨S2x2048x1, .f32⟩
  | 16 => ⟨S1x1x1, .f32⟩
  | 17 => ⟨S2x2048x1, .f32⟩
  | 18 => ⟨S2x2048x1, .f32⟩
  | 19 => ⟨S2x2048, .f32⟩
  | 20 => ⟨S2x512, .f32⟩
  | 21 => ⟨S2x512, .i32⟩
  | 22 => ⟨S_, .f32⟩
  | 23 => ⟨S2x2048, .f32⟩
  | 24 => ⟨S2x2048x1, .f32⟩
  | 25 => ⟨S_, .f32⟩
  | 26 => ⟨S2x2048x1, .f32⟩
  | 27 => ⟨S2x2048x1, .f32⟩
  | 28 => ⟨S_, .i32⟩
  | 29 => ⟨S_, .f32⟩
  | 30 => ⟨S2x2048, .f32⟩
  | 31 => ⟨S2x2048x1, .f32⟩
  | 32 => ⟨S_, .f32⟩
  | 33 => ⟨S2x2048x1, .f32⟩
  | 34 => ⟨S2x2048x1, .f32⟩
  | 35 => ⟨S2x2048x1024, .f32⟩
  | 36 => ⟨S2x2048x1024, .f32⟩
  | 37 => ⟨S2x2048x1024, .f32⟩
  | 38 => ⟨S_, .f32⟩
  | 39 => ⟨S_, .f32⟩
  | 40 => ⟨S_, .f32⟩
  | 41 => ⟨S_, .f32⟩
  | 42 => ⟨S2x2048, .f32⟩
  | 43 => ⟨S2x2048x1, .f32⟩
  | 44 => ⟨S2x2048x1, .f32⟩
  | 45 => ⟨S2x2048x1, .f32⟩
  | 46 => ⟨S_, .f32⟩
  | 47 => ⟨S_, .i1⟩
  | 48 => ⟨S_, .f32⟩
  | 49 => ⟨S_, .f32⟩
  | 50 => ⟨S2x2048x1, .f32⟩
  | 51 => ⟨S2x2048x1, .f32⟩
  | 52 => ⟨S2x2048x1024, .f32⟩
  | 53 => ⟨S2x2048x1024, .f32⟩
  | 54 => ⟨S_, .f32⟩
  | 55 => ⟨S2x2048x1, .f32⟩
  | 56 => ⟨S2x2048x1, .f32⟩
  | 57 => ⟨S2x2048x1, .f32⟩
  | 58 => ⟨S2x2048x1024, .f32⟩
  | 59 => ⟨S2x2048x1024, .f32⟩
  | 60 => ⟨S1x1x1024, .f32⟩
  | 61 => ⟨S2x2048x1024, .f32⟩
  | 62 => ⟨S2x2048x1024, .f32⟩
  | 63 => ⟨S1x1x1024, .f32⟩
  | 64 => ⟨S2x2048x1024, .f32⟩
  | 65 => ⟨S2x2048x1024, .f32⟩
  | 66 => ⟨S2x512, .i32⟩
  | 67 => ⟨S2x512x1, .i32⟩
  | 68 => ⟨S_, .i32⟩
  | 69 => ⟨S2x512x1, .i32⟩
  | 70 => ⟨S2x512x1, .i1⟩
  | 71 => ⟨S_, .i32⟩
  | 72 => ⟨S2x512x1, .i32⟩
  | 73 => ⟨S2x512x1, .i32⟩
  | 74 => ⟨S2x512x1, .i32⟩
  | 75 => ⟨S1, .i32⟩
  | 76 => ⟨S_, .i32⟩
  | 77 => ⟨S2x512x1, .i32⟩
  | 78 => ⟨S2x512x1, .i1⟩
  | 79 => ⟨S1x1x1, .i32⟩
  | 80 => ⟨S2x512x1, .i32⟩
  | 81 => ⟨S2x512x1, .i1⟩
  | 82 => ⟨S2x512x1, .i1⟩
  | 83 => ⟨S_, .i1⟩
  | 84 => ⟨S2x512, .i1⟩
  | 85 => ⟨S2x512x1024, .f32⟩
  | 86 => ⟨S2x512x1024, .i1⟩
  | 87 => ⟨S_, .f32⟩
  | 88 => ⟨S2x512x1024, .f32⟩
  | 89 => ⟨S2x512x1024, .f32⟩
  | 90 => ⟨S_, .i32⟩
  | 91 => ⟨S2x512, .i32⟩
  | 92 => ⟨S2x512, .i1⟩
  | 93 => ⟨S_, .i32⟩
  | 94 => ⟨S2x512, .i32⟩
  | 95 => ⟨S2x512, .i32⟩
  | 96 => ⟨S2x512, .i32⟩
  | 97 => ⟨S2x512x1, .i32⟩
  | 98 => ⟨S1, .i32⟩
  | 99 => ⟨S_, .i32⟩
  | 100 => ⟨S2x512x1, .i32⟩
  | 101 => ⟨S2x512x1, .i1⟩
  | 102 => ⟨S1x1x1, .i32⟩
  | 103 => ⟨S2x512x1, .i32⟩
  | 104 => ⟨S2x512x1, .i1⟩
  | 105 => ⟨S2x512x1, .i1⟩
  | 106 => ⟨S_, .i1⟩
  | 107 => ⟨S2x512, .i1⟩
  | 108 => ⟨S2x512x1024, .f32⟩
  | 109 => ⟨S2x512x1024, .i1⟩
  | 110 => ⟨S_, .f32⟩
  | 111 => ⟨S2x512x1024, .f32⟩
  | 112 => ⟨S2x512x1024, .f32⟩
  | 113 => ⟨S_, .i32⟩
  | 114 => ⟨S2x512, .i32⟩
  | 115 => ⟨S2x512, .i1⟩
  | 116 => ⟨S_, .i32⟩
  | 117 => ⟨S2x512, .i32⟩
  | 118 => ⟨S2x512, .i32⟩
  | 119 => ⟨S2x512, .i32⟩
  | 120 => ⟨S2x512x1, .i32⟩
  | 121 => ⟨S1, .i32⟩
  | 122 => ⟨S_, .i32⟩
  | 123 => ⟨S2x512x1, .i32⟩
  | 124 => ⟨S2x512x1, .i1⟩
  | 125 => ⟨S1x1x1, .i32⟩
  | 126 => ⟨S2x512x1, .i32⟩
  | 127 => ⟨S2x512x1, .i1⟩
  | _ => ⟨S2x2048x1024, .f32⟩

abbrev hbmTy0_1 (i : Nat) : BufTy := match i % 128 with
  | 0 => ⟨S2x512x1, .i1⟩
  | 1 => ⟨S_, .i1⟩
  | 2 => ⟨S2x512, .i1⟩
  | 3 => ⟨S2x512x1024, .f32⟩
  | 4 => ⟨S2x512x1024, .i1⟩
  | 5 => ⟨S_, .f32⟩
  | 6 => ⟨S2x512x1024, .f32⟩
  | 7 => ⟨S2x512x1024, .f32⟩
  | 8 => ⟨S_, .i32⟩
  | 9 => ⟨S2x512, .i32⟩
  | 10 => ⟨S2x512, .i1⟩
  | 11 => ⟨S_, .i32⟩
  | 12 => ⟨S2x512, .i32⟩
  | 13 => ⟨S2x512, .i32⟩
  | 14 => ⟨S2x512, .i32⟩
  | 15 => ⟨S2x512x1, .i32⟩
  | 16 => ⟨S1, .i32⟩
  | 17 => ⟨S_, .i32⟩
  | 18 => ⟨S2x512x1, .i32⟩
  | 19 => ⟨S2x512x1, .i1⟩
  | 20 => ⟨S1x1x1, .i32⟩
  | 21 => ⟨S2x512x1, .i32⟩
  | 22 => ⟨S2x512x1, .i1⟩
  | 23 => ⟨S2x512x1, .i1⟩
  | 24 => ⟨S_, .i1⟩
  | 25 => ⟨S2x512, .i1⟩
  | 26 => ⟨S2x512x1024, .f32⟩
  | 27 => ⟨S2x512x1024, .i1⟩
  | 28 => ⟨S_, .f32⟩
  | 29 => ⟨S2x512x1024, .f32⟩
  | 30 => ⟨S2x512x1024, .f32⟩
  | 31 => ⟨S2x512x1024, .f32⟩
  | 32 => ⟨S2x512x1024, .f32⟩
  | 33 => ⟨S2x512x1024, .f32⟩
  | 34 => ⟨S_, .f32⟩
  | 35 => ⟨S_, .f32⟩
  | 36 => ⟨S_, .f32⟩
  | 37 => ⟨S_, .f32⟩
  | 38 => ⟨S2x1024x512, .f32⟩
  | 39 => ⟨S2x512x512, .f32⟩
  | 40 => ⟨S2x512x512, .f32⟩
  | 41 => ⟨S2x512x512, .f32⟩
  | 42 => ⟨S_, .f32⟩
  | 43 => ⟨S2x512, .f32⟩
  | 44 => ⟨S_, .f32⟩
  | 45 => ⟨S2x512, .f32⟩
  | 46 => ⟨S2x512, .f32⟩
  | 47 => ⟨S2x512x1, .f32⟩
  | 48 => ⟨S2x512x512, .f32⟩
  | 49 => ⟨S2x512x512, .f32⟩
  | 50 => ⟨S2x512x512, .f32⟩
  | 51 => ⟨S_, .f32⟩
  | 52 => ⟨S2x512, .f32⟩
  | 53 => ⟨S2x512x1, .f32⟩
  | 54 => ⟨S2x512x512, .f32⟩
  | 55 => ⟨S2x512x512, .f32⟩
  | 56 => ⟨S2x512x1024, .f32⟩
  | 57 => ⟨S2, .i32⟩
  | 58 => ⟨S2x1, .i32⟩
  | 59 => ⟨S_, .f32⟩
  | 60 => ⟨S2x2048x1024, .f32⟩
  | 61 => ⟨S_, .i32⟩
  | 62 => ⟨S2x1, .i32⟩
  | 63 => ⟨S2x1, .i1⟩
  | 64 => ⟨S_, .i32⟩
  | 65 => ⟨S2x1, .i32⟩
  | 66 => ⟨S2x1, .i32⟩
  | 67 => ⟨S2x1, .i32⟩
  | 68 => ⟨S_, .i32⟩
  | 69 => ⟨S2x512, .i32⟩
  | 70 => ⟨S2x512, .i1⟩
  | 71 => ⟨S_, .i32⟩
  | 72 => ⟨S2x512, .i32⟩
  | 73 => ⟨S2x512, .i32⟩
  | 74 => ⟨S2x512, .i32⟩
  | 75 => ⟨S2x512, .i32⟩
  | 76 => ⟨S2x512x1, .i32⟩
  | 77 => ⟨S2x512x1, .i32⟩
  | 78 => ⟨S2x512x2, .i32⟩
  | 79 => ⟨S2x2048x1024, .f32⟩
  | 80 => ⟨S_, .i32⟩
  | 81 => ⟨S2x512, .i32⟩
  | 82 => ⟨S2x512, .i32⟩
  | 83 => ⟨S2x512x1, .i32⟩
  | 84 => ⟨S_, .i32⟩
  | 85 => ⟨S2x512x1, .i32⟩
  | 86 => ⟨S2x512x1, .i1⟩
  | 87 => ⟨S_, .i32⟩
  | 88 => ⟨S2x512x1, .i32⟩
  | 89 => ⟨S2x512x1, .i32⟩
  | 90 => ⟨S2x512x1, .i32⟩
  | 91 => ⟨S1, .i32⟩
  | 92 => ⟨S_, .i32⟩
  | 93 => ⟨S2x512x1, .i32⟩
  | 94 => ⟨S2x512x1, .i1⟩
  | 95 => ⟨S1x1x1, .i32⟩
  | 96 => ⟨S2x512x1, .i32⟩
  | 97 => ⟨S2x512x1, .i1⟩
  | 98 => ⟨S2x512x1, .i1⟩
  | 99 => ⟨S_, .i1⟩
  | 100 => ⟨S2x512, .i1⟩
  | 101 => ⟨S2x512x1024, .f32⟩
  | 102 => ⟨S2x512x1024, .i1⟩
  | 103 => ⟨S_, .f32⟩
  | 104 => ⟨S2x512x1024, .f32⟩
  | 105 => ⟨S2x512x1024, .f32⟩
  | 106 => ⟨S_, .i32⟩
  | 107 => ⟨S2x1, .i32⟩
  | 108 => ⟨S2x1, .i1⟩
  | 109 => ⟨S_, .i32⟩
  | 110 => ⟨S2x1, .i32⟩
  | 111 => ⟨S2x1, .i32⟩
  | 112 => ⟨S2x1, .i32⟩
  | 113 => ⟨S_, .i32⟩
  | 114 => ⟨S2x512, .i32⟩
  | 115 => ⟨S2x512, .i1⟩
  | 116 => ⟨S_, .i32⟩
  | 117 => ⟨S2x512, .i32⟩
  | 118 => ⟨S2x512, .i32⟩
  | 119 => ⟨S2x512, .i32⟩
  | 120 => ⟨S2x512, .i32⟩
  | 121 => ⟨S2x512x1, .i32⟩
  | 122 => ⟨S2x512x1, .i32⟩
  | 123 => ⟨S2x512x2, .i32⟩
  | 124 => ⟨S2x2048x1024, .f32⟩
  | 125 => ⟨S2x2048x1024, .f32⟩
  | 126 => ⟨S_, .f32⟩
  | 127 => ⟨S2x2048, .f32⟩
  | _ => ⟨S2x2048x1024, .f32⟩

abbrev hbmTy0_2 (i : Nat) : BufTy := match i % 128 with
  | 0 => ⟨S2x2048x1, .f32⟩
  | 1 => ⟨S_, .f32⟩
  | 2 => ⟨S2x2048x1, .f32⟩
  | 3 => ⟨S2x2048x1, .f32⟩
  | 4 => ⟨S_, .i32⟩
  | 5 => ⟨S_, .f32⟩
  | 6 => ⟨S2x2048, .f32⟩
  | 7 => ⟨S2x2048x1, .f32⟩
  | 8 => ⟨S_, .f32⟩
  | 9 => ⟨S2x2048x1, .f32⟩
  | 10 => ⟨S2x2048x1, .f32⟩
  | 11 => ⟨S2x2048x1024, .f32⟩
  | 12 => ⟨S2x2048x1024, .f32⟩
  | 13 => ⟨S2x2048x1024, .f32⟩
  | 14 => ⟨S_, .f32⟩
  | 15 => ⟨S_, .f32⟩
  | 16 => ⟨S_, .f32⟩
  | 17 => ⟨S_, .f32⟩
  | 18 => ⟨S2x2048, .f32⟩
  | 19 => ⟨S2x2048x1, .f32⟩
  | 20 => ⟨S2x2048x1, .f32⟩
  | 21 => ⟨S2x2048x1, .f32⟩
  | 22 => ⟨S_, .f32⟩
  | 23 => ⟨S_, .i1⟩
  | 24 => ⟨S_, .f32⟩
  | 25 => ⟨S_, .f32⟩
  | 26 => ⟨S2x2048x1, .f32⟩
  | 27 => ⟨S2x2048x1, .f32⟩
  | 28 => ⟨S2x2048x1024, .f32⟩
  | 29 => ⟨S2x2048x1024, .f32⟩
  | 30 => ⟨S_, .f32⟩
  | 31 => ⟨S2x2048x1, .f32⟩
  | 32 => ⟨S2x2048x1, .f32⟩
  | 33 => ⟨S2x2048x1, .f32⟩
  | 34 => ⟨S2x2048x1024, .f32⟩
  | 35 => ⟨S2x2048x1024, .f32⟩
  | 36 => ⟨S1x1x1024, .f32⟩
  | 37 => ⟨S2x2048x1024, .f32⟩
  | 38 => ⟨S2x2048x1024, .f32⟩
  | 39 => ⟨S1x1x1024, .f32⟩
  | 40 => ⟨S2x2048x1024, .f32⟩
  | 41 => ⟨S2x2048x1024, .f32⟩
  | 42 => ⟨S1024x4096, .f32⟩
  | 43 => ⟨S2x2048x4096, .f32⟩
  | 44 => ⟨S1x1x4096, .f32⟩
  | 45 => ⟨S2x2048x4096, .f32⟩
  | 46 => ⟨S2x2048x4096, .f32⟩
  | 47 => ⟨S_, .f32⟩
  | 48 => ⟨S2x2048x4096, .f32⟩
  | 49 => ⟨S2x2048x4096, .f32⟩
  | 50 => ⟨S_, .f32⟩
  | 51 => ⟨S2x2048x4096, .f32⟩
  | 52 => ⟨S2x2048x4096, .f32⟩
  | 53 => ⟨S_, .f32⟩
  | 54 => ⟨S2x2048x4096, .f32⟩
  | 55 => ⟨S2x2048x4096, .f32⟩
  | 56 => ⟨S2x2048x4096, .f32⟩
  | 57 => ⟨S_, .f32⟩
  | 58 => ⟨S2x2048x4096, .f32⟩
  | 59 => ⟨S2x2048x4096, .f32⟩
  | 60 => ⟨S2x2048x4096, .f32⟩
  | 61 => ⟨S_, .f32⟩
  | 62 => ⟨S2x2048x4096, .f32⟩
  | 63 => ⟨S2x2048x4096, .f32⟩
  | 64 => ⟨S2x2048x4096, .f32⟩
  | 65 => ⟨S4096x1024, .f32⟩
  | 66 => ⟨S2x2048x1024, .f32⟩
  | 67 => ⟨S1x1x1024, .f32⟩
  | 68 => ⟨S2x2048x1024, .f32⟩
  | 69 => ⟨S2x2048x1024, .f32⟩
  | 70 => ⟨S2x2048x1024, .f32⟩
  | _ => ⟨S2x2048x1024, .f32⟩

abbrev hbmTy (i : Nat) : BufTy := match i / 128 with
  | 0 => hbmTy0_0 i
  | 1 => hbmTy0_1 i
  | 2 => hbmTy0_2 i
  | _ => ⟨S2x2048x1024, .f32⟩

abbrev bufTy : (tb : Table) → Fin (tcTables nBuf tb) → BufTy
  | .hbm, ⟨i, _⟩ => hbmTy i
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_values : Ref sig .tc := ⟨.hbm, 20, rfl⟩
abbrev main_indices : Ref sig .tc := ⟨.hbm, 21, rfl⟩
abbrev main_cst : Ref sig .tc := ⟨.hbm, 22, rfl⟩
abbrev main_v6 : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_c : Ref sig .tc := ⟨.hbm, 28, rfl⟩
abbrev main_call0_cst : Ref sig .tc := ⟨.hbm, 29, rfl⟩
abbrev main_call0_v0 : Ref sig .tc := ⟨.hbm, 30, rfl⟩
abbrev main_call0_v1 : Ref sig .tc := ⟨.hbm, 31, rfl⟩
abbrev main_call0_cst_0 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_call0_v5 : Ref sig .tc := ⟨.hbm, 36, rfl⟩
abbrev main_call0_v6 : Ref sig .tc := ⟨.hbm, 37, rfl⟩
abbrev main_call0_v7 : Ref sig .tc := ⟨.hbm, 38, rfl⟩
abbrev main_call0_cst_1 : Ref sig .tc := ⟨.hbm, 39, rfl⟩
abbrev main_call0_v8 : Ref sig .tc := ⟨.hbm, 40, rfl⟩
abbrev main_call0_cst_2 : Ref sig .tc := ⟨.hbm, 41, rfl⟩
abbrev main_call0_v9 : Ref sig .tc := ⟨.hbm, 42, rfl⟩
abbrev main_call0_v10 : Ref sig .tc := ⟨.hbm, 43, rfl⟩
abbrev main_call0_v11 : Ref sig .tc := ⟨.hbm, 44, rfl⟩
abbrev main_call0_v12 : Ref sig .tc := ⟨.hbm, 45, rfl⟩
abbrev main_call0_cst_3 : Ref sig .tc := ⟨.hbm, 46, rfl⟩
abbrev main_call0_v13 : Ref sig .tc := ⟨.hbm, 47, rfl⟩
abbrev main_call0_cst_4 : Ref sig .tc := ⟨.hbm, 48, rfl⟩
abbrev main_call0_call0_v0 : Ref sig .tc := ⟨.hbm, 49, rfl⟩
abbrev main_call0_call0_v1 : Ref sig .tc := ⟨.hbm, 50, rfl⟩
abbrev main_v10 : Ref sig .tc := ⟨.hbm, 51, rfl⟩
abbrev main_v11 : Ref sig .tc := ⟨.hbm, 52, rfl⟩
abbrev main_v12 : Ref sig .tc := ⟨.hbm, 53, rfl⟩
abbrev main_cst_1 : Ref sig .tc := ⟨.hbm, 54, rfl⟩
abbrev main_v13 : Ref sig .tc := ⟨.hbm, 55, rfl⟩
abbrev main_v14 : Ref sig .tc := ⟨.hbm, 56, rfl⟩
abbrev main_v15 : Ref sig .tc := ⟨.hbm, 57, rfl⟩
abbrev main_v16 : Ref sig .tc := ⟨.hbm, 58, rfl⟩
abbrev main_v17 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_call2_c : Ref sig .tc := ⟨.hbm, 68, rfl⟩
abbrev main_call2_v0 : Ref sig .tc := ⟨.hbm, 69, rfl⟩
abbrev main_call2_v1 : Ref sig .tc := ⟨.hbm, 70, rfl⟩
abbrev main_call2_c_0 : Ref sig .tc := ⟨.hbm, 71, rfl⟩
abbrev main_call2_v2 : Ref sig .tc := ⟨.hbm, 72, rfl⟩
abbrev main_call2_v3 : Ref sig .tc := ⟨.hbm, 73, rfl⟩
abbrev main_call2_v4 : Ref sig .tc := ⟨.hbm, 74, rfl⟩
abbrev main_call2_c_1 : Ref sig .tc := ⟨.hbm, 75, rfl⟩
abbrev main_call2_c_2 : Ref sig .tc := ⟨.hbm, 76, rfl⟩
abbrev main_call2_v5 : Ref sig .tc := ⟨.hbm, 77, rfl⟩
abbrev main_call2_v6 : Ref sig .tc := ⟨.hbm, 78, rfl⟩
abbrev main_call2_v7 : Ref sig .tc := ⟨.hbm, 79, rfl⟩
abbrev main_call2_v8 : Ref sig .tc := ⟨.hbm, 80, rfl⟩
abbrev main_call2_v9 : Ref sig .tc := ⟨.hbm, 81, rfl⟩
abbrev main_call2_v10 : Ref sig .tc := ⟨.hbm, 82, rfl⟩
abbrev main_call2_c_3 : Ref sig .tc := ⟨.hbm, 83, rfl⟩
abbrev main_call2_v11 : Ref sig .tc := ⟨.hbm, 84, rfl⟩
abbrev main_call2_v12 : Ref sig .tc := ⟨.hbm, 85, rfl⟩
abbrev main_call2_v13 : Ref sig .tc := ⟨.hbm, 86, rfl⟩
abbrev main_call2_cst : Ref sig .tc := ⟨.hbm, 87, rfl⟩
abbrev main_call2_v14 : Ref sig .tc := ⟨.hbm, 88, rfl⟩
abbrev main_v26 : Ref sig .tc := ⟨.hbm, 89, rfl⟩
abbrev main_call3_c : Ref sig .tc := ⟨.hbm, 90, rfl⟩
abbrev main_call3_v0 : Ref sig .tc := ⟨.hbm, 91, rfl⟩
abbrev main_call3_v1 : Ref sig .tc := ⟨.hbm, 92, rfl⟩
abbrev main_call3_c_0 : Ref sig .tc := ⟨.hbm, 93, rfl⟩
abbrev main_call3_v2 : Ref sig .tc := ⟨.hbm, 94, rfl⟩
abbrev main_call3_v3 : Ref sig .tc := ⟨.hbm, 95, rfl⟩
abbrev main_call3_v4 : Ref sig .tc := ⟨.hbm, 96, rfl⟩
abbrev main_call3_v5 : Ref sig .tc := ⟨.hbm, 97, rfl⟩
abbrev main_call3_c_1 : Ref sig .tc := ⟨.hbm, 98, rfl⟩
abbrev main_call3_c_2 : Ref sig .tc := ⟨.hbm, 99, rfl⟩
abbrev main_call3_v6 : Ref sig .tc := ⟨.hbm, 100, rfl⟩
abbrev main_call3_v7 : Ref sig .tc := ⟨.hbm, 101, rfl⟩
abbrev main_call3_v8 : Ref sig .tc := ⟨.hbm, 102, rfl⟩
abbrev main_call3_v9 : Ref sig .tc := ⟨.hbm, 103, rfl⟩
abbrev main_call3_v10 : Ref sig .tc := ⟨.hbm, 104, rfl⟩
abbrev main_call3_v11 : Ref sig .tc := ⟨.hbm, 105, rfl⟩
abbrev main_call3_c_3 : Ref sig .tc := ⟨.hbm, 106, rfl⟩
abbrev main_call3_v12 : Ref sig .tc := ⟨.hbm, 107, rfl⟩
abbrev main_call3_v13 : Ref sig .tc := ⟨.hbm, 108, rfl⟩
abbrev main_call3_v14 : Ref sig .tc := ⟨.hbm, 109, rfl⟩
abbrev main_call3_cst : Ref sig .tc := ⟨.hbm, 110, rfl⟩
abbrev main_call3_v15 : Ref sig .tc := ⟨.hbm, 111, rfl⟩
abbrev main_v27 : Ref sig .tc := ⟨.hbm, 112, rfl⟩
abbrev main_call4_c : Ref sig .tc := ⟨.hbm, 113, rfl⟩
abbrev main_call4_v0 : Ref sig .tc := ⟨.hbm, 114, rfl⟩
abbrev main_call4_v1 : Ref sig .tc := ⟨.hbm, 115, rfl⟩
abbrev main_call4_c_0 : Ref sig .tc := ⟨.hbm, 116, rfl⟩
abbrev main_call4_v2 : Ref sig .tc := ⟨.hbm, 117, rfl⟩
abbrev main_call4_v3 : Ref sig .tc := ⟨.hbm, 118, rfl⟩
abbrev main_call4_v4 : Ref sig .tc := ⟨.hbm, 119, rfl⟩
abbrev main_call4_v5 : Ref sig .tc := ⟨.hbm, 120, rfl⟩
abbrev main_call4_c_1 : Ref sig .tc := ⟨.hbm, 121, rfl⟩
abbrev main_call4_c_2 : Ref sig .tc := ⟨.hbm, 122, rfl⟩
abbrev main_call4_v6 : Ref sig .tc := ⟨.hbm, 123, rfl⟩
abbrev main_call4_v7 : Ref sig .tc := ⟨.hbm, 124, rfl⟩
abbrev main_call4_v8 : Ref sig .tc := ⟨.hbm, 125, rfl⟩
abbrev main_call4_v9 : Ref sig .tc := ⟨.hbm, 126, rfl⟩
abbrev main_call4_v10 : Ref sig .tc := ⟨.hbm, 127, rfl⟩
abbrev main_call4_v11 : Ref sig .tc := ⟨.hbm, 128, rfl⟩
abbrev main_call4_c_3 : Ref sig .tc := ⟨.hbm, 129, rfl⟩
abbrev main_call4_v12 : Ref sig .tc := ⟨.hbm, 130, rfl⟩
abbrev main_call4_v13 : Ref sig .tc := ⟨.hbm, 131, rfl⟩
abbrev main_call4_v14 : Ref sig .tc := ⟨.hbm, 132, rfl⟩
abbrev main_call4_cst : Ref sig .tc := ⟨.hbm, 133, rfl⟩
abbrev main_call4_v15 : Ref sig .tc := ⟨.hbm, 134, rfl⟩
abbrev main_v28 : Ref sig .tc := ⟨.hbm, 135, rfl⟩
abbrev main_call5_c : Ref sig .tc := ⟨.hbm, 136, rfl⟩
abbrev main_call5_v0 : Ref sig .tc := ⟨.hbm, 137, rfl⟩
abbrev main_call5_v1 : Ref sig .tc := ⟨.hbm, 138, rfl⟩
abbrev main_call5_c_0 : Ref sig .tc := ⟨.hbm, 139, rfl⟩
abbrev main_call5_v2 : Ref sig .tc := ⟨.hbm, 140, rfl⟩
abbrev main_call5_v3 : Ref sig .tc := ⟨.hbm, 141, rfl⟩
abbrev main_call5_v4 : Ref sig .tc := ⟨.hbm, 142, rfl⟩
abbrev main_call5_v5 : Ref sig .tc := ⟨.hbm, 143, rfl⟩
abbrev main_call5_c_1 : Ref sig .tc := ⟨.hbm, 144, rfl⟩
abbrev main_call5_c_2 : Ref sig .tc := ⟨.hbm, 145, rfl⟩
abbrev main_call5_v6 : Ref sig .tc := ⟨.hbm, 146, rfl⟩
abbrev main_call5_v7 : Ref sig .tc := ⟨.hbm, 147, rfl⟩
abbrev main_call5_v8 : Ref sig .tc := ⟨.hbm, 148, rfl⟩
abbrev main_call5_v9 : Ref sig .tc := ⟨.hbm, 149, rfl⟩
abbrev main_call5_v10 : Ref sig .tc := ⟨.hbm, 150, rfl⟩
abbrev main_call5_v11 : Ref sig .tc := ⟨.hbm, 151, rfl⟩
abbrev main_call5_c_3 : Ref sig .tc := ⟨.hbm, 152, rfl⟩
abbrev main_call5_v12 : Ref sig .tc := ⟨.hbm, 153, rfl⟩
abbrev main_call5_v13 : Ref sig .tc := ⟨.hbm, 154, rfl⟩
abbrev main_call5_v14 : Ref sig .tc := ⟨.hbm, 155, rfl⟩
abbrev main_call5_cst : Ref sig .tc := ⟨.hbm, 156, rfl⟩
abbrev main_call5_v15 : Ref sig .tc := ⟨.hbm, 157, rfl⟩
abbrev main_v29 : Ref sig .tc := ⟨.hbm, 158, rfl⟩
abbrev main_v30 : Ref sig .tc := ⟨.hbm, 159, rfl⟩
abbrev main_v31 : Ref sig .tc := ⟨.hbm, 160, rfl⟩
abbrev main_v32 : Ref sig .tc := ⟨.hbm, 161, rfl⟩
abbrev main_cst_2 : Ref sig .tc := ⟨.hbm, 162, rfl⟩
abbrev main_v33 : Ref sig .tc := ⟨.hbm, 163, rfl⟩
abbrev main_cst_3 : Ref sig .tc := ⟨.hbm, 164, rfl⟩
abbrev main_v34 : Ref sig .tc := ⟨.hbm, 165, rfl⟩
abbrev main_v35 : Ref sig .tc := ⟨.hbm, 166, rfl⟩
abbrev main_v36 : Ref sig .tc := ⟨.hbm, 167, rfl⟩
abbrev main_v37 : Ref sig .tc := ⟨.hbm, 168, rfl⟩
abbrev main_v38 : Ref sig .tc := ⟨.hbm, 169, rfl⟩
abbrev main_cst_4 : Ref sig .tc := ⟨.hbm, 170, rfl⟩
abbrev main_v39 : Ref sig .tc := ⟨.hbm, 171, rfl⟩
abbrev main_cst_5 : Ref sig .tc := ⟨.hbm, 172, rfl⟩
abbrev main_v40 : Ref sig .tc := ⟨.hbm, 173, rfl⟩
abbrev main_v41 : Ref sig .tc := ⟨.hbm, 174, rfl⟩
abbrev main_v42 : Ref sig .tc := ⟨.hbm, 175, rfl⟩
abbrev main_v43 : Ref sig .tc := ⟨.hbm, 176, rfl⟩
abbrev main_v44 : Ref sig .tc := ⟨.hbm, 177, rfl⟩
abbrev main_v45 : Ref sig .tc := ⟨.hbm, 178, rfl⟩
abbrev main_cst_6 : Ref sig .tc := ⟨.hbm, 179, rfl⟩
abbrev main_v46 : Ref sig .tc := ⟨.hbm, 180, rfl⟩
abbrev main_v47 : Ref sig .tc := ⟨.hbm, 181, rfl⟩
abbrev main_v48 : Ref sig .tc := ⟨.hbm, 182, rfl⟩
abbrev main_v49 : Ref sig .tc := ⟨.hbm, 183, rfl⟩
abbrev main_v50 : Ref sig .tc := ⟨.hbm, 184, rfl⟩
abbrev main_v51 : Ref sig .tc := ⟨.hbm, 185, rfl⟩
abbrev main_v52 : Ref sig .tc := ⟨.hbm, 186, rfl⟩
abbrev main_cst_7 : Ref sig .tc := ⟨.hbm, 187, rfl⟩
abbrev main_v53 : Ref sig .tc := ⟨.hbm, 188, rfl⟩
abbrev main_c_8 : Ref sig .tc := ⟨.hbm, 189, rfl⟩
abbrev main_v54 : Ref sig .tc := ⟨.hbm, 190, rfl⟩
abbrev main_v55 : Ref sig .tc := ⟨.hbm, 191, rfl⟩
abbrev main_c_9 : Ref sig .tc := ⟨.hbm, 192, rfl⟩
abbrev main_v56 : Ref sig .tc := ⟨.hbm, 193, rfl⟩
abbrev main_v57 : Ref sig .tc := ⟨.hbm, 194, rfl⟩
abbrev main_v58 : Ref sig .tc := ⟨.hbm, 195, rfl⟩
abbrev main_c_10 : Ref sig .tc := ⟨.hbm, 196, rfl⟩
abbrev main_v59 : Ref sig .tc := ⟨.hbm, 197, rfl⟩
abbrev main_v60 : Ref sig .tc := ⟨.hbm, 198, rfl⟩
abbrev main_c_11 : Ref sig .tc := ⟨.hbm, 199, rfl⟩
abbrev main_v61 : Ref sig .tc := ⟨.hbm, 200, rfl⟩
abbrev main_v62 : Ref sig .tc := ⟨.hbm, 201, rfl⟩
abbrev main_v63 : Ref sig .tc := ⟨.hbm, 202, rfl⟩
abbrev main_v64 : Ref sig .tc := ⟨.hbm, 203, rfl⟩
abbrev main_v65 : Ref sig .tc := ⟨.hbm, 204, rfl⟩
abbrev main_v66 : Ref sig .tc := ⟨.hbm, 205, rfl⟩
abbrev main_v67 : Ref sig .tc := ⟨.hbm, 206, rfl⟩
abbrev main_v68 : Ref sig .tc := ⟨.hbm, 207, rfl⟩
abbrev main_c_12 : Ref sig .tc := ⟨.hbm, 208, rfl⟩
abbrev main_v69 : Ref sig .tc := ⟨.hbm, 209, rfl⟩
abbrev main_v70 : Ref sig .tc := ⟨.hbm, 210, rfl⟩
abbrev main_v71 : Ref sig .tc := ⟨.hbm, 211, rfl⟩
abbrev main_call6_c : Ref sig .tc := ⟨.hbm, 212, rfl⟩
abbrev main_call6_v0 : Ref sig .tc := ⟨.hbm, 213, rfl⟩
abbrev main_call6_v1 : Ref sig .tc := ⟨.hbm, 214, rfl⟩
abbrev main_call6_c_0 : Ref sig .tc := ⟨.hbm, 215, rfl⟩
abbrev main_call6_v2 : Ref sig .tc := ⟨.hbm, 216, rfl⟩
abbrev main_call6_v3 : Ref sig .tc := ⟨.hbm, 217, rfl⟩
abbrev main_call6_v4 : Ref sig .tc := ⟨.hbm, 218, rfl⟩
abbrev main_call6_c_1 : Ref sig .tc := ⟨.hbm, 219, rfl⟩
abbrev main_call6_c_2 : Ref sig .tc := ⟨.hbm, 220, rfl⟩
abbrev main_call6_v5 : Ref sig .tc := ⟨.hbm, 221, rfl⟩
abbrev main_call6_v6 : Ref sig .tc := ⟨.hbm, 222, rfl⟩
abbrev main_call6_v7 : Ref sig .tc := ⟨.hbm, 223, rfl⟩
abbrev main_call6_v8 : Ref sig .tc := ⟨.hbm, 224, rfl⟩
abbrev main_call6_v9 : Ref sig .tc := ⟨.hbm, 225, rfl⟩
abbrev main_call6_v10 : Ref sig .tc := ⟨.hbm, 226, rfl⟩
abbrev main_call6_c_3 : Ref sig .tc := ⟨.hbm, 227, rfl⟩
abbrev main_call6_v11 : Ref sig .tc := ⟨.hbm, 228, rfl⟩
abbrev main_call6_v12 : Ref sig .tc := ⟨.hbm, 229, rfl⟩
abbrev main_call6_v13 : Ref sig .tc := ⟨.hbm, 230, rfl⟩
abbrev main_call6_cst : Ref sig .tc := ⟨.hbm, 231, rfl⟩
abbrev main_call6_v14 : Ref sig .tc := ⟨.hbm, 232, rfl⟩
abbrev main_v72 : Ref sig .tc := ⟨.hbm, 233, rfl⟩
abbrev main_c_13 : Ref sig .tc := ⟨.hbm, 234, rfl⟩
abbrev main_v73 : Ref sig .tc := ⟨.hbm, 235, rfl⟩
abbrev main_v74 : Ref sig .tc := ⟨.hbm, 236, rfl⟩
abbrev main_c_14 : Ref sig .tc := ⟨.hbm, 237, rfl⟩
abbrev main_v75 : Ref sig .tc := ⟨.hbm, 238, rfl⟩
abbrev main_v76 : Ref sig .tc := ⟨.hbm, 239, rfl⟩
abbrev main_v77 : Ref sig .tc := ⟨.hbm, 240, rfl⟩
abbrev main_c_15 : Ref sig .tc := ⟨.hbm, 241, rfl⟩
abbrev main_v78 : Ref sig .tc := ⟨.hbm, 242, rfl⟩
abbrev main_v79 : Ref sig .tc := ⟨.hbm, 243, rfl⟩
abbrev main_c_16 : Ref sig .tc := ⟨.hbm, 244, rfl⟩
abbrev main_v80 : Ref sig .tc := ⟨.hbm, 245, rfl⟩
abbrev main_v81 : Ref sig .tc := ⟨.hbm, 246, rfl⟩
abbrev main_v82 : Ref sig .tc := ⟨.hbm, 247, rfl⟩
abbrev main_v83 : Ref sig .tc := ⟨.hbm, 248, rfl⟩
abbrev main_v84 : Ref sig .tc := ⟨.hbm, 249, rfl⟩
abbrev main_v85 : Ref sig .tc := ⟨.hbm, 250, rfl⟩
abbrev main_v86 : Ref sig .tc := ⟨.hbm, 251, rfl⟩
abbrev main_v87 : Ref sig .tc := ⟨.hbm, 252, rfl⟩
abbrev main_v88 : Ref sig .tc := ⟨.hbm, 253, rfl⟩
abbrev main_cst_17 : Ref sig .tc := ⟨.hbm, 254, rfl⟩
abbrev main_v89 : Ref sig .tc := ⟨.hbm, 255, rfl⟩
abbrev main_v90 : Ref sig .tc := ⟨.hbm, 256, rfl⟩
abbrev main_cst_18 : Ref sig .tc := ⟨.hbm, 257, rfl⟩
abbrev main_v91 : Ref sig .tc := ⟨.hbm, 258, rfl⟩
abbrev main_v92 : Ref sig .tc := ⟨.hbm, 259, rfl⟩
abbrev main_c_19 : Ref sig .tc := ⟨.hbm, 260, rfl⟩
abbrev main_call7_cst : Ref sig .tc := ⟨.hbm, 261, rfl⟩
abbrev main_call7_v0 : Ref sig .tc := ⟨.hbm, 262, rfl⟩
abbrev main_call7_v1 : Ref sig .tc := ⟨.hbm, 263, rfl⟩
abbrev main_call7_cst_0 : Ref sig .tc := ⟨.hbm, 264, rfl⟩
abbrev main_call7_v2 : Ref sig .tc := ⟨.hbm, 265, rfl⟩
abbrev main_call7_v3 : Ref sig .tc := ⟨.hbm, 266, rfl⟩
abbrev main_call7_v4 : Ref sig .tc := ⟨.hbm, 267, rfl⟩
abbrev main_call7_v5 : Ref sig .tc := ⟨.hbm, 268, rfl⟩
abbrev main_call7_v6 : Ref sig .tc := ⟨.hbm, 269, rfl⟩
abbrev main_call7_v7 : Ref sig .tc := ⟨.hbm, 270, rfl⟩
abbrev main_call7_cst_1 : Ref sig .tc := ⟨.hbm, 271, rfl⟩
abbrev main_call7_v8 : Ref sig .tc := ⟨.hbm, 272, rfl⟩
abbrev main_call7_cst_2 : Ref sig .tc := ⟨.hbm, 273, rfl⟩
abbrev main_call7_v9 : Ref sig .tc := ⟨.hbm, 274, rfl⟩
abbrev main_call7_v10 : Ref sig .tc := ⟨.hbm, 275, rfl⟩
abbrev main_call7_v11 : Ref sig .tc := ⟨.hbm, 276, rfl⟩
abbrev main_call7_v12 : Ref sig .tc := ⟨.hbm, 277, rfl⟩
abbrev main_call7_cst_3 : Ref sig .tc := ⟨.hbm, 278, rfl⟩
abbrev main_call7_v13 : Ref sig .tc := ⟨.hbm, 279, rfl⟩
abbrev main_call7_cst_4 : Ref sig .tc := ⟨.hbm, 280, rfl⟩
abbrev main_call7_call0_v0 : Ref sig .tc := ⟨.hbm, 281, rfl⟩
abbrev main_call7_call0_v1 : Ref sig .tc := ⟨.hbm, 282, rfl⟩
abbrev main_v93 : Ref sig .tc := ⟨.hbm, 283, rfl⟩
abbrev main_v94 : Ref sig .tc := ⟨.hbm, 284, rfl⟩
abbrev main_v95 : Ref sig .tc := ⟨.hbm, 285, rfl⟩
abbrev main_cst_20 : Ref sig .tc := ⟨.hbm, 286, rfl⟩
abbrev main_v96 : Ref sig .tc := ⟨.hbm, 287, rfl⟩
abbrev main_v97 : Ref sig .tc := ⟨.hbm, 288, rfl⟩
abbrev main_v98 : Ref sig .tc := ⟨.hbm, 289, rfl⟩
abbrev main_v99 : Ref sig .tc := ⟨.hbm, 290, rfl⟩
abbrev main_v100 : Ref sig .tc := ⟨.hbm, 291, rfl⟩
abbrev main_v101 : Ref sig .tc := ⟨.hbm, 292, rfl⟩
abbrev main_v102 : Ref sig .tc := ⟨.hbm, 293, rfl⟩
abbrev main_v103 : Ref sig .tc := ⟨.hbm, 294, rfl⟩
abbrev main_v104 : Ref sig .tc := ⟨.hbm, 295, rfl⟩
abbrev main_v105 : Ref sig .tc := ⟨.hbm, 296, rfl⟩
abbrev main_v106 : Ref sig .tc := ⟨.hbm, 297, rfl⟩
abbrev main_v107 : Ref sig .tc := ⟨.hbm, 298, rfl⟩
abbrev main_v108 : Ref sig .tc := ⟨.hbm, 299, rfl⟩
abbrev main_v109 : Ref sig .tc := ⟨.hbm, 300, rfl⟩
abbrev main_v110 : Ref sig .tc := ⟨.hbm, 301, rfl⟩
abbrev main_v111 : Ref sig .tc := ⟨.hbm, 302, rfl⟩
abbrev main_cst_21 : Ref sig .tc := ⟨.hbm, 303, rfl⟩
abbrev main_v112 : Ref sig .tc := ⟨.hbm, 304, rfl⟩
abbrev main_v113 : Ref sig .tc := ⟨.hbm, 305, rfl⟩
abbrev main_cst_22 : Ref sig .tc := ⟨.hbm, 306, rfl⟩
abbrev main_v114 : Ref sig .tc := ⟨.hbm, 307, rfl⟩
abbrev main_v115 : Ref sig .tc := ⟨.hbm, 308, rfl⟩
abbrev main_cst_23 : Ref sig .tc := ⟨.hbm, 309, rfl⟩
abbrev main_v116 : Ref sig .tc := ⟨.hbm, 310, rfl⟩
abbrev main_v117 : Ref sig .tc := ⟨.hbm, 311, rfl⟩
abbrev main_v118 : Ref sig .tc := ⟨.hbm, 312, rfl⟩
abbrev main_cst_24 : Ref sig .tc := ⟨.hbm, 313, rfl⟩
abbrev main_v119 : Ref sig .tc := ⟨.hbm, 314, rfl⟩
abbrev main_v120 : Ref sig .tc := ⟨.hbm, 315, rfl⟩
abbrev main_v121 : Ref sig .tc := ⟨.hbm, 316, rfl⟩
abbrev main_cst_25 : Ref sig .tc := ⟨.hbm, 317, rfl⟩
abbrev main_v122 : Ref sig .tc := ⟨.hbm, 318, rfl⟩
abbrev main_v123 : Ref sig .tc := ⟨.hbm, 319, rfl⟩
abbrev main_v124 : Ref sig .tc := ⟨.hbm, 320, rfl⟩
abbrev main_v125 : Ref sig .tc := ⟨.hbm, 321, rfl⟩
abbrev main_v126 : Ref sig .tc := ⟨.hbm, 322, rfl⟩
abbrev main_v127 : Ref sig .tc := ⟨.hbm, 323, rfl⟩
abbrev main_v128 : Ref sig .tc := ⟨.hbm, 324, rfl⟩
abbrev main_v129 : Ref sig .tc := ⟨.hbm, 325, rfl⟩
abbrev main_v130 : Ref sig .tc := ⟨.hbm, 326, rfl⟩

abbrev nD : Nat := 1
abbrev τ : Topo := Topo.v7x

variable {F : FTy → Type} [FloatOps F]
-- ==== Proof.Order.lean ====
/- The order in which a stable sort lists the positions of a row, greatest first: the place of a position is the number of
   positions that come before it, where an equal value at a lower position comes before. -/
module

public import Idealize.ShloMosaic.PureOps.Ideal
public import Idealize.ShloMosaic.Lib.SortPrefix
public import Idealize.ShloMosaic.Lib.SortFacts

@[expose] public section

noncomputable section

namespace Cert.Order

open Idealize.ShloMosaic

variable {n : Nat}

/-- `j` comes before `i` in the row `r`: its value is greater, or it is equal and `j` is the lower position. -/
def Before (r : Fin n → EReal) (j i : Fin n) : Prop := r i < r j ∨ (r j = r i ∧ j < i)

open Classical in
/-- The number of positions that come before `i`. -/
def rank (r : Fin n → EReal) (i : Fin n) : Nat := (Finset.univ.filter fun j => Before r j i).card

open Classical in
/-- "Greater value" as the boolean that a sort takes. -/
def gtB (r : Fin n → EReal) (k k' : Fin n) : Bool := decide (r k' < r k)

open Classical in
/-- "Comes before" as a boolean. -/
def beforeB (r : Fin n → EReal) (k k' : Fin n) : Bool := decide (Before r k k')

/-- Nothing comes before itself. -/
theorem before_irrefl (r : Fin n → EReal) (i : Fin n) : ¬ Before r i i := by
  rintro (h | ⟨-, h⟩)
  · exact lt_irrefl _ h
  · exact lt_irrefl _ h

/-- Of two different positions one comes before the other. -/
theorem before_total (r : Fin n → EReal) {i j : Fin n} (h : i ≠ j) : Before r i j ∨ Before r j i := by
  rcases lt_trichotomy (r i) (r j) with h1 | h1 | h1
  · exact .inr (.inl h1)
  · rcases lt_or_gt_of_ne h with h2 | h2
    · exact .inl (.inr ⟨h1, h2⟩)
    · exact .inr (.inr ⟨h1.symm, h2⟩)
  · exact .inl (.inl h1)

/-- "Comes before" is transitive. -/
theorem before_trans (r : Fin n → EReal) {i j k : Fin n} (h : Before r i j) (h' : Before r j k) : Before r i k := by
  rcases h with h | ⟨h, hl⟩ <;> rcases h' with h' | ⟨h', hl'⟩
  · exact .inl (h'.trans h)
  · exact .inl (h' ▸ h)
  · exact .inl (h ▸ h')
  · exact .inr ⟨h.trans h', hl.trans hl'⟩

/-- On a list of increasing positions the stable sort by "greater value" is the sort by "comes before". -/
theorem stableSort_gt_eq (r : Fin n → EReal) (l : List (Fin n)) (hl : l.Pairwise (· < ·)) :
    stableSort (gtB r) l = stableSort (beforeB r) l := by
  induction l with
  | nil => rfl
  | cons a l ih =>
    rw [List.pairwise_cons] at hl
    unfold stableSort
    rw [ih hl.2]
    refine insertBefore_congr _ _ _ _ fun b hb => ?_
    have hab : a < b := hl.1 b ((perm_stableSort (beforeB r) l).mem_iff.mp hb)
    unfold gtB beforeB
    refine decide_eq_decide.mpr ⟨fun h => .inl h, ?_⟩
    rintro (h | ⟨-, h⟩)
    · exact h
    · exact absurd h (not_lt.mpr hab.le)

/-- So the position listed at `k` is the same under both. -/
theorem sortedFrom_gt_eq (r : Fin n → EReal) : sortedFrom (gtB r) = sortedFrom (beforeB r) := by
  funext k
  unfold sortedFrom
  have h : sortPositions n (gtB r) = sortPositions n (beforeB r) :=
    stableSort_gt_eq r _ (List.pairwise_lt_finRange n)
  rw [List.get_of_eq h]
  rfl

/-- An earlier place holds a position that comes before. -/
theorem before_of_lt (r : Fin n → EReal) {a b : Fin n} (h : a < b) :
    Before r (sortedFrom (gtB r) a) (sortedFrom (gtB r) b) := by
  rw [sortedFrom_gt_eq]
  have hno := sortedFrom_noInversion (beforeB r) (beforeB r)
    (fun x y hxy => by
      simp only [beforeB, decide_eq_true_eq, decide_eq_false_iff_not] at *
      exact fun hyx => before_irrefl r x (before_trans r hxy hyx))
    (fun _ _ hh => hh)
    (fun x y z hxy hyz => by
      simp only [beforeB, decide_eq_false_iff_not] at *
      intro hxz
      by_cases e : x = y
      · subst e; exact hyz hxz
      · rcases before_total r e with h1 | h1
        · exact hxy h1
        · exact hyz (before_trans r h1 hxz))
    a b h
  unfold beforeB at hno
  rw [decide_eq_false_iff_not] at hno
  have hne : sortedFrom (beforeB r) a ≠ sortedFrom (beforeB r) b :=
    fun e => (ne_of_lt h) (sortedFrom_injective (beforeB r) e)
  rcases before_total r hne with h1 | h1
  · exact h1
  · exact absurd h1 hno

/-- The position listed at place `k` has exactly `k` positions before it. -/
theorem rank_sortedFrom (r : Fin n → EReal) (k : Fin n) : rank r (sortedFrom (gtB r) k) = k.val := by
  classical
  unfold rank
  have himg : (Finset.univ.filter fun j => Before r j (sortedFrom (gtB r) k))
      = (Finset.univ.filter fun a : Fin n => a < k).image (sortedFrom (gtB r)) := by
    ext j
    simp only [Finset.mem_filter, Finset.mem_univ, true_and, Finset.mem_image]
    constructor
    · intro hj
      obtain ⟨a, rfl⟩ := sortedFrom_surjective (gtB r) j
      refine ⟨a, ?_, rfl⟩
      by_contra hak
      rcases eq_or_lt_of_le (not_lt.mp hak) with e | hlt
      · subst e; exact before_irrefl r _ hj
      · exact before_irrefl r _ (before_trans r hj (before_of_lt r hlt))
    · rintro ⟨a, ha, rfl⟩
      exact before_of_lt r ha
  rw [himg, Finset.card_image_of_injective _ (sortedFrom_injective (gtB r)),
    show (Finset.univ.filter fun a : Fin n => a < k) = Finset.Iio k by ext; simp, Fin.card_Iio]

/-- Adding a real number to every value of a row changes no rank. -/
theorem rank_add_coe (r : Fin n → EReal) (c : ℝ) (i : Fin n) : rank (fun j => r j + (c : EReal)) i = rank r i := by
  classical
  unfold rank
  congr 1
  refine Finset.filter_congr fun j _ => ?_
  have hlt : ∀ x y : EReal, x + (c : EReal) < y + (c : EReal) ↔ x < y := by
    intro x y
    induction x with
    | bot => induction y with
      | bot => simp
      | top => simp
      | coe y => simp only [EReal.bot_add, ← EReal.coe_add, EReal.bot_lt_coe]
    | top => simp
    | coe x => induction y with
      | bot => simp
      | top => simp only [EReal.top_add_coe, ← EReal.coe_add, EReal.coe_lt_top]
      | coe y => rw [← EReal.coe_add, ← EReal.coe_add, EReal.coe_lt_coe_iff, EReal.coe_lt_coe_iff]; simp
  have heq : ∀ x y : EReal, x + (c : EReal) = y + (c : EReal) ↔ x = y := by
    intro x y
    constructor
    · intro h
      rcases lt_trichotomy x y with h1 | h1 | h1
      · exact absurd h (ne_of_lt ((hlt x y).mpr h1))
      · exact h1
      · exact absurd h.symm (ne_of_lt ((hlt y x).mpr h1))
    · rintro rfl; rfl
  unfold Before
  simp only [hlt, heq]

end Cert.Order

end
-- ==== Proof.Consts.lean ====
/- The float constants of the two programs as real numbers, and the numbers that the comparisons' bits become. -/
module

public import Idealize.ShloMosaic.Lib.Pointwise
public import Idealize.ShloMosaic.Lib.WordCmp

@[expose] public section

noncomputable section

namespace Cert.Consts

open Idealize.ShloMosaic

/-- The constant 512. -/
theorem c512 : Ideal.ofBits .f32 0x44000000#32 = ((512 : ℝ) : EReal) := by
  simp [Ideal.ofBits, Ideal.ieee, -EReal.coe_mul]; norm_num

/-- The constant 1024. -/
theorem c1024 : Ideal.ofBits .f32 0x44800000#32 = ((1024 : ℝ) : EReal) := by
  simp [Ideal.ofBits, Ideal.ieee, -EReal.coe_mul]; norm_num

/-- The constant 1/2. -/
theorem half : Ideal.ofBits .f32 0x3F000000#32 = (((1 : ℝ) / 2) : ℝ) := by
  simp [Ideal.ofBits, Ideal.ieee, -EReal.coe_mul]; norm_num

/-- The constant 3. -/
theorem three : Ideal.ofBits .f32 0x40400000#32 = ((3 : ℝ) : EReal) := by
  simp [Ideal.ofBits, Ideal.ieee, -EReal.coe_mul]; norm_num

/-- The small constant under the layer norm's root is a positive real number. -/
theorem eps_pos : ∃ e : ℝ, 0 < e ∧ Ideal.ofBits .f32 0x3727C5AC#32 = (e : EReal) := by
  refine ⟨_, ?_, by simp [Ideal.ofBits, Ideal.ieee, -EReal.coe_mul]; rfl⟩
  norm_num

/-- The root of two over pi, as the f32 literal. -/
theorem root : Ideal.ofBits .f32 0x3F4C422A#32 = (((6693141 : ℝ) / 8388608 : ℝ) : EReal) := by
  simp [Ideal.ofBits, Ideal.ieee, -EReal.coe_mul]; norm_num

/-- The cube's coefficient, as the f32 literal. -/
theorem cube : Ideal.ofBits .f32 0x3D372713#32 = (((12003091 : ℝ) / 268435456 : ℝ) : EReal) := by
  simp [Ideal.ofBits, Ideal.ieee, -EReal.coe_mul]; norm_num

/-- The pattern of positive infinity. -/
theorem inf : Ideal.ofBits .f32 0x7F800000#32 = (⊤ : EReal) := by
  simp [Ideal.ofBits, Ideal.ieee]

open Classical in
/-- A comparison's bit, widened and converted, is one where it holds and zero elsewhere. -/
theorem bit (b : Bool) : (FloatOps.sitofp (F := Ideal) .f32 (BitVec.setWidth 32 (BitVec.ofBool b)) : EReal) = if b = true then 1 else 0 := by
  have : (FloatOps.sitofp (F := Ideal) .f32 (BitVec.setWidth 32 (BitVec.ofBool b)) : EReal)
      = (((BitVec.setWidth 32 (BitVec.ofBool b)).toInt : ℝ) : EReal) := rfl
  rw [this]
  cases b
  · have h0 : (BitVec.setWidth 32 (BitVec.ofBool false)).toInt = 0 := by decide
    rw [h0]; norm_num
  · have h1 : (BitVec.setWidth 32 (BitVec.ofBool true)).toInt = 1 := by decide
    rw [h1]; norm_num

end Cert.Consts

end
-- ==== Proof.Kmask.lean ====
/- What the first kernel stores: for every token of a sequence, one when fewer than 512 tokens of the sequence come before it
   in the order of the scores, and zero otherwise. -/
module

public import proofs.«01_k».proof.Proof.Gen.KernelIdeal.Frame
public import proofs.«01_k».proof.Proof.Order
public import proofs.«01_k».proof.Proof.Consts
public import Idealize.ShloMosaic.Lib.Pointwise
public import Idealize.ShloMosaic.Lib.Pipeline.ValueKit

@[expose] public section

set_option maxRecDepth 16384

noncomputable section

namespace Cert.KernelIdeal.Kmask

open Idealize.ShloMosaic Cert.KernelIdeal Cert.KernelIdeal.Gen

/-- The score of one row of a block: its product with the router's weights. -/
def sc (x0 : Vec Ideal S1x2048x1024 .f32) (x1 : Vec Ideal S1x1024 .f32) (i : Fin 2048) : EReal :=
  ∑ k : Fin 1024, x0 (ix3 0 i k) * x1 (ix2 0 k)

/-- A sum over 1024 positions in four runs of 256. -/
theorem sum_four (f : Fin 1024 → EReal) :
    ∑ k, f k = (∑ k : Fin 256, f ⟨k.val, by omega⟩) + (∑ k : Fin 256, f ⟨256 + k.val, by omega⟩)
      + (∑ k : Fin 256, f ⟨512 + k.val, by omega⟩) + (∑ k : Fin 256, f ⟨768 + k.val, by omega⟩) := by
  have h1 := Fin.sum_univ_add (a := 768) (b := 256) f
  have h2 := Fin.sum_univ_add (a := 512) (b := 256) fun i : Fin 768 => f (Fin.castAdd 256 i)
  have h3 := Fin.sum_univ_add (a := 256) (b := 256) fun i : Fin 512 => f (Fin.castAdd 256 (Fin.castAdd 256 i))
  rw [h2, h3] at h1
  exact h1

/-- The column of scores. -/
theorem col (x0 : Vec Ideal S1x2048x1024 .f32) (x1 : Vec Ideal S1x1024 .f32) (i : Fin 2048) :
    k0_pay23 x0 x1 (ix2 i 0) = sc x0 x1 i := by
  unfold k0_pay23 sc
  pointwise [k0_pay2]
  rw [sum_four]

open Classical in
/-- A product with a column of the identity picks one entry. -/
theorem pick (v : Fin 2048 → EReal) (a o : Nat) (i : Fin 2048) (h : a + o = i.val) :
    ∑ x : Fin 2048, v x * FloatOps.sitofp (F := Ideal) .f32 (BitVec.setWidth 32 (IntOp.cmpi .eq (BitVec.ofNat 32 ↑x)
      (IntOp.addi (BitVec.ofNat 32 a) (BitVec.ofNat 32 o)))) = v i := by
  have hb : ∀ x : Fin 2048, FloatOps.sitofp (F := Ideal) .f32 (BitVec.setWidth 32 (IntOp.cmpi .eq (BitVec.ofNat 32 ↑x)
      (IntOp.addi (BitVec.ofNat 32 a) (BitVec.ofNat 32 o)))) = if x = i then (1 : EReal) else 0 := by
    intro x
    have hx : IntOp.addi (BitVec.ofNat 32 a) (BitVec.ofNat 32 o) = BitVec.ofNat 32 i.val := by
      rw [← h]; exact (BitVec.ofNat_add a o).symm
    rw [hx, WordCmp.cmpi_eq_eq, Consts.bit]
    have := x.isLt
    have := i.isLt
    simp only [decide_eq_true_eq, WordCmp.ofNat_eq_ofNat_iff (w := 32) (a := x.val) (b := i.val) (by omega) (by omega), Fin.ext_iff]
  simp only [hb, mul_ite, mul_one, mul_zero, Finset.sum_ite_eq', Finset.mem_univ, if_true]

/-- The row of scores: the column carried across by products with pieces of the identity. -/
theorem row (x0 : Vec Ideal S1x2048x1024 .f32) (x1 : Vec Ideal S1x1024 .f32) (i : Fin 2048) :
    k0_pay28 x0 x1 (ix2 0 i) = sc x0 x1 i := by
  rw [← col]
  have e24 : k0_pay24 x0 x1 = matmul dot_S2048x1_S2048x256_S1x256_0_0_1_1_n_n (some .fp32) (k0_pay23 x0 x1) _ _ := rfl
  have e25 : k0_pay25 x0 x1 = matmul dot_S2048x1_S2048x256_S1x256_0_0_1_1_n_n (some .fp32) (k0_pay23 x0 x1) _ _ := rfl
  unfold k0_pay28 k0_pay26
  rw [e24, e25]
  generalize k0_pay23 x0 x1 = v at *
  pointwise [k0_pay6, k0_pay5]
  split_ifs <;> exact pick (fun x => v (ix2 x 0)) _ _ i (by omega)

open Classical in
/-- The stored bit of one token, from the row of scores and the token's own score. -/
theorem maskBit (r : Fin 2048 → EReal) (i : Fin 2048) (a o : Nat) (h : a + o = i.val) :
    FloatOps.sitofp (F := Ideal) .f32 (BitVec.setWidth 32 (BitVec.ofBool (decide
      ((∑ x : Fin 2048, ((FloatOps.sitofp (F := Ideal) .f32 (BitVec.setWidth 32 (BitVec.ofBool (decide (r i < r x)))) : EReal) +
        FloatOps.sitofp (F := Ideal) .f32 (BitVec.setWidth 32 (IntOp.andi (BitVec.ofBool (decide (r x = r i)))
          (IntOp.cmpi .slt (BitVec.ofNat 32 ↑x) (IntOp.addi (BitVec.ofNat 32 a) (BitVec.ofNat 32 o))))) : EReal))
        < Ideal.ofBits .f32 0x44000000#32)))) = if Order.rank r i < 512 then (1 : EReal) else 0 := by
  have hs : ∀ x : Fin 2048, ((FloatOps.sitofp (F := Ideal) .f32 (BitVec.setWidth 32 (BitVec.ofBool (decide (r i < r x)))) : EReal) +
        FloatOps.sitofp (F := Ideal) .f32 (BitVec.setWidth 32 (IntOp.andi (BitVec.ofBool (decide (r x = r i)))
          (IntOp.cmpi .slt (BitVec.ofNat 32 ↑x) (IntOp.addi (BitVec.ofNat 32 a) (BitVec.ofNat 32 o))))) : EReal)
      = if Order.Before r x i then (1 : EReal) else 0 := by
    intro x
    have hx : IntOp.addi (BitVec.ofNat 32 a) (BitVec.ofNat 32 o) = BitVec.ofNat 32 i.val := by
      rw [← h]; exact (BitVec.ofNat_add a o).symm
    have := x.isLt
    have := i.isLt
    rw [hx, WordCmp.cmpi_slt_ofNat (w := 32) (a := x.val) (b := i.val) (by omega) (by omega), WordCmp.andi_ofBool, Consts.bit,
      Consts.bit]
    unfold Order.Before
    simp only [decide_eq_true_eq, Bool.and_eq_true, ← Fin.lt_def]
    by_cases h1 : r i < r x
    · have h2 : ¬ (r x = r i ∧ x < i) := fun hh => ne_of_gt h1 hh.1
      simp [h1, h2]
    · simp [h1]
  have hc : (∑ x : Fin 2048, if Order.Before r x i then (1 : EReal) else 0) = ((Order.rank r i : ℝ) : EReal) := by
    rw [Finset.sum_boole]
    unfold Order.rank
    rw [EReal.coe_natCast]
  rw [Finset.sum_congr rfl fun x _ => hs x, hc, Consts.c512, Consts.bit]
  simp only [decide_eq_true_eq, EReal.coe_lt_coe_iff]
  congr 1
  norm_num

open Classical in
/-- The first kernel's block at a token: whether the token is among the first 512. -/
theorem out (x0 : Vec Ideal S1x2048x1024 .f32) (x1 : Vec Ideal S1x1024 .f32) (i : Fin 2048) :
    out0_2 x0 x1 (ix3 0 i 0) = if Order.rank (sc x0 x1) i < 512 then (1 : EReal) else 0 := by
  obtain ⟨iv, hi⟩ := i
  generalize hy : (ix3 0 ⟨iv, hi⟩ 0 : S1x2048x1.Idx) = y
  unfold out0_2
  have e28 : k0_pay6 (k0_pay23 x0 x1) (k0_pay24 x0 x1) (k0_pay25 x0 x1) (k0_pay26 x0 x1) = k0_pay28 x0 x1 := rfl
  canon_tiles x h
  all_goals
    idx_vars x
    subst hy
    change iv = _ at h1
    subst h1
    unfold k0_pay27
    pointwise [k0_pay1, k0_pay22, k0_pay21, k0_pay20, k0_pay16, k0_pay17, k0_pay18, k0_pay19, k0_pay15, k0_pay14, k0_pay13, k0_pay12,
      k0_pay11, k0_pay10, k0_pay9, k0_pay7, k0_pay8, e28]
    simp only [row, col]
  case piece7 => exact maskBit _ ⟨_, hi⟩ _ 0 (by dsimp only; omega)
  case piece6 => exact maskBit _ ⟨_, hi⟩ _ 256 (by dsimp only; omega)
  case piece5 => exact maskBit _ ⟨_, hi⟩ _ 512 (by dsimp only; omega)
  case piece4 => exact maskBit _ ⟨_, hi⟩ _ 768 (by dsimp only; omega)
  case piece3 => exact maskBit _ ⟨_, hi⟩ _ 1024 (by dsimp only; omega)
  case piece2 => exact maskBit _ ⟨_, hi⟩ _ 1280 (by dsimp only; omega)
  case piece1 => exact maskBit _ ⟨_, hi⟩ _ 1536 (by dsimp only; omega)
  case piece0 => exact maskBit _ ⟨_, hi⟩ _ 1792 (by dsimp only; omega)

end Cert.KernelIdeal.Kmask

end
-- ==== Proof.Spec.lean ====
/- The block that both programs compute, one token at a time, over plain functions of indices. -/
module

public import proofs.«01_k».proof.Proof.Order
public import Idealize.ShloMosaic.PureOps.Ideal

@[expose] public section

noncomputable section

namespace Cert.Spec

open Idealize.ShloMosaic

/-- The mean of a row of 1024 values. -/
def mean (v : Fin 1024 → EReal) : EReal := Ideal.div (∑ k, v k) (Ideal.ofBits .f32 0x44800000#32)

/-- The mean square distance of a row from its mean. -/
def var (v : Fin 1024 → EReal) : EReal :=
  Ideal.div (∑ k, (v k - mean v) * (v k - mean v)) (Ideal.ofBits .f32 0x44800000#32)

/-- A row less its mean, over the root of its variance plus a small constant. -/
def unit (v : Fin 1024 → EReal) (k : Fin 1024) : EReal :=
  (v k - mean v) * Ideal.rsqrt (var v + Ideal.ofBits .f32 0x3727C5AC#32)

/-- The layer norm of a row. -/
def lnorm (v g b : Fin 1024 → EReal) (k : Fin 1024) : EReal := unit v k * g k + b k

/-- The activation, with the two coefficients `a` and `c`. -/
def gelu (a c h : EReal) : EReal :=
  Ideal.ofBits .f32 0x3F000000#32 * h + Ideal.ofBits .f32 0x3F000000#32 * h * Ideal.tanh (h * (a + c * (h * h)))

/-- The hidden layer of the block at a row. -/
def layer (z g2 b2 : Fin 1024 → EReal) (Wfc : Fin 4096 → Fin 1024 → EReal) (bfc : Fin 4096 → EReal) (f : Fin 4096) : EReal :=
  ∑ k, lnorm z g2 b2 k * Wfc f k + bfc f

/-- A row plus the block's output layer over the activations `act` of its hidden layer. -/
def block (act : EReal → EReal) (z g2 b2 : Fin 1024 → EReal) (Wfc : Fin 4096 → Fin 1024 → EReal) (bfc : Fin 4096 → EReal)
    (Wproj : Fin 1024 → Fin 4096 → EReal) (bproj : Fin 1024 → EReal) (k : Fin 1024) : EReal :=
  z k + (∑ f, act (layer z g2 b2 Wfc bfc f) * Wproj k f + bproj k)

/-- The router's score of a token. -/
def score (x : Fin 2048 → Fin 1024 → EReal) (w : Fin 1024 → EReal) (i : Fin 2048) : EReal := ∑ k, x i k * w k

/-- The token opposite to token `i` of the sequence. -/
def opp (i : Fin 2048) : Fin 2048 := ⟨2047 - i.val, by omega⟩

open Classical in
/-- The attention's residual: a selected token receives the normalised token opposite to it. -/
def resid (x : Fin 2048 → Fin 1024 → EReal) (w g1 b1 : Fin 1024 → EReal) (i : Fin 2048) (k : Fin 1024) : EReal :=
  x i k + if Order.rank (score x w) i < 512 then lnorm (x (opp i)) g1 b1 k else 0

end Cert.Spec

end
-- ==== Proof.Kblock.lean ====
/- What the second kernel stores for one tile of 512 tokens, from the blocks it loads. -/
module

public import proofs.«01_k».proof.Proof.Gen.KernelIdeal.Frame
public import proofs.«01_k».proof.Proof.Spec
public import proofs.«01_k».proof.Proof.Consts
public import Idealize.ShloMosaic.Lib.Pointwise
public import Idealize.ShloMosaic.Lib.Pipeline.ValueKit

@[expose] public section

set_option maxRecDepth 16384

noncomputable section

namespace Cert.KernelIdeal.Kblock

open Idealize.ShloMosaic Cert.KernelIdeal Cert.KernelIdeal.Gen Cert.Spec

/-- The normalised rows of the mirror tile. -/
theorem norm (x1 : Vec Ideal S1x512x1024 .f32) (g b : Vec Ideal S1x1024 .f32) (p : Fin 512) (k : Fin 1024) :
    k1_pay3 x1 g b (ix2 p k) = lnorm (fun k => x1 (ix3 0 p k)) (fun k => g (ix2 0 k)) (fun k => b (ix2 0 k)) k := by
  unfold lnorm unit var mean
  pointwise [k1_pay3]

/-- A product with a row of the reversed identity picks the opposite entry. -/
theorem pick (v : Fin 256 → EReal) (a : Nat) (i : Fin 256) (h : a + i.val = 255) :
    ∑ x : Fin 256, FloatOps.sitofp (F := Ideal) .f32 (BitVec.setWidth 32 (IntOp.cmpi .eq
      (IntOp.addi (BitVec.ofNat 32 a) (BitVec.ofNat 32 ↑x)) 255#32)) * v x = v i := by
  have hb : ∀ x : Fin 256, FloatOps.sitofp (F := Ideal) .f32 (BitVec.setWidth 32 (IntOp.cmpi .eq
      (IntOp.addi (BitVec.ofNat 32 a) (BitVec.ofNat 32 ↑x)) 255#32)) = if x = i then (1 : EReal) else 0 := by
    intro x
    have hx : IntOp.addi (BitVec.ofNat 32 a) (BitVec.ofNat 32 x.val) = BitVec.ofNat 32 (a + x.val) :=
      (BitVec.ofNat_add a x.val).symm
    rw [hx, WordCmp.cmpi_eq_eq, Consts.bit]
    have := x.isLt
    have := i.isLt
    simp only [decide_eq_true_eq, WordCmp.ofNat_eq_ofNat_iff (w := 32) (a := a + x.val) (b := 255) (by omega) (by omega), Fin.ext_iff]
    congr 1
    exact propext (by omega)
  simp only [hb, ite_mul, one_mul, zero_mul, Finset.sum_ite_eq', Finset.mem_univ, if_true]

/-- The tile plus the masked, normalised, reversed mirror tile. -/
theorem x1 (x0 xm : Vec Ideal S1x512x1024 .f32) (m : Vec Ideal S1x512x1 .f32) (g b : Vec Ideal S1x1024 .f32)
    (p : Fin 512) (k : Fin 1024) :
    k1_pay7 (k1_pay2 x0) k1_pay4 (k1_pay5 xm g b) (k1_pay6 xm g b) (constant S256x1024 .f32 0x00000000#32) m (ix2 p k)
      = x0 (ix3 0 p k) + m (ix3 0 p 0) * lnorm (fun k => xm (ix3 0 ⟨511 - p.val, by omega⟩ k)) (fun k => g (ix2 0 k))
          (fun k => b (ix2 0 k)) k := by
  rw [← norm]
  pointwise [k1_pay7, k1_pay2, k1_pay4, k1_pay5, k1_pay6]
  congr 2
  split_ifs with h
  · exact (pick (fun x => k1_pay3 xm g b (ix2 ⟨256 + x.val, by omega⟩ k)) p.val ⟨255 - p.val, by omega⟩ (by dsimp only; omega)).trans
      (by congr 2; ext; dsimp only; omega)
  · exact (pick (fun x => k1_pay3 xm g b (ix2 ⟨x.val, by omega⟩ k)) (p.val - 256) ⟨511 - p.val, by omega⟩ (by dsimp only; omega))

/-- The hidden layer over the tile's rows. -/
theorem lay (v1 : FVec Ideal S512x1024 .f32) (v36 : FVec Ideal S256x256 .f32) (v38 v39 cst : FVec Ideal S256x1024 .f32)
    (v42 : Vec Ideal S1x512x1 .f32) (g b : Vec Ideal S1x1024 .f32) (w : Vec Ideal S4096x1024 .f32) (c : Vec Ideal S1x4096 .f32)
    (p : Fin 512) (f : Fin 4096) :
    k1_pay8 v1 v36 v38 v39 cst v42 g b w c (ix2 p f) = layer (fun k => k1_pay7 v1 v36 v38 v39 cst v42 (ix2 p k))
      (fun k => g (ix2 0 k)) (fun k => b (ix2 0 k)) (fun f k => w (ix2 f k)) (fun f => c (ix2 0 f)) f := by
  unfold k1_pay8 layer lnorm unit var mean
  generalize k1_pay7 v1 v36 v38 v39 cst v42 = v
  pointwise []

/-- The coefficient that the kernel folds into one constant. -/
def rc : EReal := ((80338380498831 / 2251799813685248 : ℝ) : EReal)

/-- The product of the folded constant and the square of the hidden layer. -/
theorem sq (v1 : FVec Ideal S512x1024 .f32) (v36 : FVec Ideal S256x256 .f32) (v38 v39 cst : FVec Ideal S256x1024 .f32)
    (v42 : Vec Ideal S1x512x1 .f32) (g b : Vec Ideal S1x1024 .f32) (w : Vec Ideal S4096x1024 .f32) (c : Vec Ideal S1x4096 .f32)
    (j : S512x4096.Idx) :
    k1_pay9 v1 v36 v38 v39 cst v42 g b w c j
      = rc * (k1_pay8 v1 v36 v38 v39 cst v42 g b w c j * k1_pay8 v1 v36 v38 v39 cst v42 g b w c j) := by
  unfold k1_pay9
  generalize k1_pay8 v1 v36 v38 v39 cst v42 g b w c = v
  have e : (Named.named (F := Ideal) κ "root_times_cube" 0x3D122279#32 : Ideal .f32) = rc :=
    rfl
  pointwise [e]

/-- The second kernel's block at an element. -/
theorem out (x0 xm : Vec Ideal S1x512x1024 .f32) (x2 : Vec Ideal S1x512x1 .f32) (x3 x4 x5 x6 : Vec Ideal S1x1024 .f32)
    (x7 : Vec Ideal S4096x1024 .f32) (x8 : Vec Ideal S1x4096 .f32) (x9 : Vec Ideal S1024x4096 .f32) (x10 : Vec Ideal S1x1024 .f32)
    (p : Fin 512) (k : Fin 1024) :
    out1_11 x0 xm x2 x3 x4 x5 x6 x7 x8 x9 x10 (ix3 0 p k)
      = block (gelu (Ideal.ofBits .f32 0x3F4C422A#32) rc)
          (fun k => x0 (ix3 0 p k) + x2 (ix3 0 p 0) * lnorm (fun k => xm (ix3 0 ⟨511 - p.val, by omega⟩ k)) (fun k => x3 (ix2 0 k))
            (fun k => x4 (ix2 0 k)) k)
          (fun k => x5 (ix2 0 k)) (fun k => x6 (ix2 0 k)) (fun f k => x7 (ix2 f k)) (fun f => x8 (ix2 0 f))
          (fun k f => x9 (ix2 k f)) (fun k => x10 (ix2 0 k)) k := by
  have l0 : ∀ x : Vec Ideal S1x512x1024 .f32, View.ld x r1_0 = x := fun x => by funext j; idx_vars j; rw [Subsingleton.elim j0 0]; pointwise []
  have l1 : ∀ x : Vec Ideal S1x1024 .f32, View.ld x r1_1 = x := fun x => by funext j; idx_vars j; rw [Subsingleton.elim j0 0]; pointwise []
  have l2 : ∀ x : Vec Ideal S1x512x1 .f32, View.ld x r1_2 = x := fun x => by funext j; idx_vars j; rw [Subsingleton.elim j0 0, Subsingleton.elim j2 0]; pointwise []
  have l3 : ∀ x : Vec Ideal S4096x1024 .f32, View.ld x r1_3 = x := fun x => by funext j; idx_vars j; pointwise []
  have l4 : ∀ x : Vec Ideal S1x4096 .f32, View.ld x r1_4 = x := fun x => by funext j; idx_vars j; rw [Subsingleton.elim j0 0]; pointwise []
  have l5 : ∀ x : Vec Ideal S1024x4096 .f32, View.ld x r1_5 = x := fun x => by funext j; idx_vars j; pointwise []
  generalize hy : (ix3 0 p k : S1x512x1024.Idx) = y
  unfold_out out1_11
  canon_tiles x h
  have hx : x = ix3 0 p k := by
    subst hy
    idx_vars x
    exact (congrArg₂ (ix3 _) (Fin.ext h1.symm) (Fin.ext h2.symm)).trans (by congr 1; omega)
  subst hx
  rw [l0, l0, l1, l1, l1, l1, l1, l2, l3, l4, l5]
  unfold k1_pay1 block gelu
  pointwise [sq, lay, x1]

end Cert.KernelIdeal.Kblock

end
-- ==== Proof.Kvalue.lean ====
module

public import proofs.«01_k».proof.Proof.Kmask
public import proofs.«01_k».proof.Proof.Kblock

@[expose] public section

set_option maxRecDepth 16384

noncomputable section

namespace Cert.KernelIdeal.Kvalue

open Idealize.ShloMosaic Idealize.SL.Sem Cert.KernelIdeal Cert.KernelIdeal.Gen Cert.Spec

variable (V : (c : Dev nD) → (b : Ref sig .tc) → Buf (Elt Ideal) ((c.tc : Thread nD τ).loc b)) (c : Dev nD)

open Classical in
/-- One where a token is among the first 512 of its sequence, zero elsewhere. -/
def maskOf (x : FVec Ideal S2x2048x1024 .f32) (w : FVec Ideal S1x1024 .f32) : FVec Ideal S2x2048x1 .f32 := fun y =>
  if Order.rank (score (fun i k => x (ix3 (y 0) i k)) (fun k => w (ix2 0 k))) (y 1) < 512 then (1 : EReal) else 0

/-- An index of the first kernel's block names a row. -/
theorem split0 (y : S1x2048x1.Idx) : ∃ i : Fin 2048, y = ix3 0 i 0 := by
  idx_vars y
  exact ⟨_, by congr 1 <;> exact Subsingleton.elim _ _⟩

/-- An index of the second kernel's block names a row and a column. -/
theorem split1 (y : S1x512x1024.Idx) : ∃ (p : Fin 512) (k : Fin 1024), y = ix3 0 p k := by
  idx_vars y
  exact ⟨_, _, by congr 1 <;> exact Subsingleton.elim _ _⟩

/-- The sequence that a point of the first grid works on. -/
def seq0 (t : Fin cfg0.N) : Fin 2 := ⟨(grid0.coords t 0).val, (by decide +kernel : ∀ t : Fin cfg0.N, (grid0.coords t 0).val < 2) t⟩

/-- Where the windows of the first grid stand. -/
theorem idx0 : ∀ t : Fin cfg0.N, win0_0.index t = ![(seq0 t).val, 0, 0] ∧ win0_1.index t = ![0, 0] ∧ win0_2.index t = ![(seq0 t).val, 0, 0] := by
  decide +kernel

/-- The block of tokens. -/
theorem rd0_0 (t : Fin cfg0.N) (i : Fin 2048) (k : Fin 1024) : iblk0 V c 0 t (ix3 0 i k) = V c main_arg0 (ix3 (seq0 t) i k) := by
  blk_ext [iblk0, idx0 t]

/-- The router's weights. -/
theorem rd0_1 (t : Fin cfg0.N) (k : Fin 1024) : iblk0 V c 1 t (ix2 0 k) = V c main_arg1 (ix2 0 k) := by
  blk_ext [iblk0, idx0 t]

/-- The place of an element of the stored block. -/
theorem emb0 (t : Fin cfg0.N) (i : Fin 2048) : (win0_2.blk t).view.emb (ix3 0 i 0) = ix3 (seq0 t) i 0 := by
  blk_ext [idx0 t]

/-- The mask that the first kernel leaves. -/
theorem mask : (dat0 V c).arrAt 2 cfg0.N = maskOf (V c main_arg0) (V c main_arg1) := by
  refine (dat0 V c).arrAt_eq_of_covers 2 _ (by decide +kernel) fun t hf y => ?_
  blk_simp
  rw [after0_2]
  obtain ⟨i, rfl⟩ := split0 y
  refine Eq.trans (Kmask.out _ _ i) ?_
  rw [emb0]
  unfold maskOf Kmask.sc score
  simp only [rd0_0, rd0_1]
  rfl

/-- The sequence and the tile that a point of the second grid works on. -/
def seq1 (t : Fin cfg1.N) : Fin 2 := ⟨(grid1.coords t 0).val, (by decide +kernel : ∀ t : Fin cfg1.N, (grid1.coords t 0).val < 2) t⟩
/-- The tile of the sequence at a grid point of the second kernel. -/
def tile (t : Fin cfg1.N) : Fin 4 := ⟨(grid1.coords t 1).val, (by decide +kernel : ∀ t : Fin cfg1.N, (grid1.coords t 1).val < 4) t⟩

/-- Where the windows of the second grid stand. -/
theorem idx1 : ∀ t : Fin cfg1.N, win1_0.index t = ![(seq1 t).val, (tile t).val, 0] ∧ win1_1.index t = ![(seq1 t).val, 3 - (tile t).val, 0]
    ∧ win1_2.index t = ![(seq1 t).val, (tile t).val, 0] ∧ win1_3.index t = ![0, 0] ∧ win1_4.index t = ![0, 0]
    ∧ win1_5.index t = ![0, 0] ∧ win1_6.index t = ![0, 0] ∧ win1_7.index t = ![0, 0] ∧ win1_8.index t = ![0, 0]
    ∧ win1_9.index t = ![0, 0] ∧ win1_10.index t = ![0, 0] ∧ win1_11.index t = ![(seq1 t).val, (tile t).val, 0] := by
  decide +kernel

/-- The token of a tile's row. -/
def tok (t : Fin cfg1.N) (p : Fin 512) : Fin 2048 := ⟨(tile t).val * 512 + p.val, by have := (tile t).isLt; omega⟩

/-- The block of tokens at a grid point. -/
theorem rd1_0 (t : Fin cfg1.N) (p : Fin 512) (k : Fin 1024) : iblk1 V c 0 t (ix3 0 p k) = V c main_arg0 (ix3 (seq1 t) (tok t p) k) := by
  unfold tok
  blk_ext [iblk1, idx1 t]
/-- The mirrored block's row opposite to row `p` is the token opposite to `p`'s. -/
theorem rd1_1 (t : Fin cfg1.N) (p : Fin 512) (k : Fin 1024) (h : 511 - p.val < 512) : iblk1 V c 1 t (ix3 0 ⟨511 - p.val, h⟩ k) = V c main_arg0 (ix3 (seq1 t) (opp (tok t p)) k) := by
  have := (tile t).isLt
  unfold tok opp
  blk_ext [iblk1, idx1 t]
/-- The block of the mask. -/
theorem rd1_2 (t : Fin cfg1.N) (p : Fin 512) : iblk1 V c 2 t (ix3 0 p 0) = V c main_v0 (ix3 (seq1 t) (tok t p) 0) := by
  unfold tok
  blk_ext [iblk1, idx1 t]
/-- The first scale, whole at every grid point. -/
theorem rd1_3 (t : Fin cfg1.N) (k : Fin 1024) : iblk1 V c 3 t (ix2 0 k) = V c main_v1 (ix2 0 k) := by
  blk_ext [iblk1, idx1 t]
/-- The first shift, whole. -/
theorem rd1_4 (t : Fin cfg1.N) (k : Fin 1024) : iblk1 V c 4 t (ix2 0 k) = V c main_v2 (ix2 0 k) := by
  blk_ext [iblk1, idx1 t]
/-- The second scale, whole. -/
theorem rd1_5 (t : Fin cfg1.N) (k : Fin 1024) : iblk1 V c 5 t (ix2 0 k) = V c main_v3 (ix2 0 k) := by
  blk_ext [iblk1, idx1 t]
/-- The second shift, whole. -/
theorem rd1_6 (t : Fin cfg1.N) (k : Fin 1024) : iblk1 V c 6 t (ix2 0 k) = V c main_v4 (ix2 0 k) := by
  blk_ext [iblk1, idx1 t]
/-- The hidden layer's weights, whole. -/
theorem rd1_7 (t : Fin cfg1.N) (f : Fin 4096) (k : Fin 1024) : iblk1 V c 7 t (ix2 f k) = V c main_arg8 (ix2 f k) := by
  blk_ext [iblk1, idx1 t]
/-- The hidden layer's bias, whole. -/
theorem rd1_8 (t : Fin cfg1.N) (f : Fin 4096) : iblk1 V c 8 t (ix2 0 f) = V c main_v5 (ix2 0 f) := by
  blk_ext [iblk1, idx1 t]
/-- The output layer's weights, whole. -/
theorem rd1_9 (t : Fin cfg1.N) (k : Fin 1024) (f : Fin 4096) : iblk1 V c 9 t (ix2 k f) = V c main_arg10 (ix2 k f) := by
  blk_ext [iblk1, idx1 t]
/-- The output layer's bias, whole. -/
theorem rd1_10 (t : Fin cfg1.N) (k : Fin 1024) : iblk1 V c 10 t (ix2 0 k) = V c main_v6 (ix2 0 k) := by
  blk_ext [iblk1, idx1 t]
/-- Where the result block's elements lie in the result. -/
theorem emb1 (t : Fin cfg1.N) (p : Fin 512) (k : Fin 1024) : (win1_11.blk t).view.emb (ix3 0 p k) = ix3 (seq1 t) (tok t p) k := by
  unfold tok
  blk_ext [idx1 t]

/-- The block that the second kernel computes, over whole arrays. -/
def blockOf (x : FVec Ideal S2x2048x1024 .f32) (mk : FVec Ideal S2x2048x1 .f32) (g1 b1 g2 b2 : FVec Ideal S1x1024 .f32)
    (Wfc : FVec Ideal S4096x1024 .f32) (bfc : FVec Ideal S1x4096 .f32) (Wproj : FVec Ideal S1024x4096 .f32)
    (bproj : FVec Ideal S1x1024 .f32) : FVec Ideal S2x2048x1024 .f32 := fun y =>
  block (gelu (Ideal.ofBits .f32 0x3F4C422A#32) Kblock.rc)
    (fun k => x (ix3 (y 0) (y 1) k) + mk (ix3 (y 0) (y 1) 0) *
      lnorm (fun k => x (ix3 (y 0) (opp (y 1)) k)) (fun k => g1 (ix2 0 k)) (fun k => b1 (ix2 0 k)) k)
    (fun k => g2 (ix2 0 k)) (fun k => b2 (ix2 0 k)) (fun f k => Wfc (ix2 f k)) (fun f => bfc (ix2 0 f))
    (fun k f => Wproj (ix2 k f)) (fun k => bproj (ix2 0 k)) (y 2)

/-- The result that the second kernel leaves. -/
theorem result :
    (dat1 V c).arrAt 11 cfg1.N = blockOf (V c main_arg0) (V c main_v0) (V c main_v1) (V c main_v2) (V c main_v3) (V c main_v4)
      (V c main_arg8) (V c main_v5) (V c main_arg10) (V c main_v6) := by
  refine (dat1 V c).arrAt_eq_of_covers 11 _ (by decide +kernel) fun t hf y => ?_
  blk_simp
  rw [after1_11]
  obtain ⟨p, k, rfl⟩ := split1 y
  refine Eq.trans (Kblock.out _ _ _ _ _ _ _ _ _ _ _ p k) ?_
  rw [emb1]
  unfold blockOf
  simp only [rd1_0, rd1_1, rd1_2, rd1_3, rd1_4, rd1_5, rd1_6, rd1_7, rd1_8, rd1_9, rd1_10]
  rfl

end Cert.KernelIdeal.Kvalue

end
-- ==== Proof.Krun.lean ====
/- What the kernel's two calls leave in the result array, as one function of the launched arrays, and the run that ends so. -/
module

public import proofs.«01_k».proof.Proof.Kvalue
public import Idealize.ShloMosaic.Lib.StableHlo.ReadAt

@[expose] public section

set_option maxRecDepth 16384

noncomputable section

namespace Cert.KernelIdeal.Krun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.Spec Cert.KernelIdeal.Kvalue

local notation "𝕄" => MT nD τ sig Unit (Elt Ideal) ℕ (UR sig nD τ) ℕ

/-- The whole computation over the arrays as launched. -/
def whole (x : FVec Ideal S2x2048x1024 .f32) (w : FVec Ideal S1x1024 .f32) (g1 b1 : FVec Ideal S1024 .f32)
    (Wfc : FVec Ideal S4096x1024 .f32) (bfc : FVec Ideal S4096 .f32) (Wproj : FVec Ideal S1024x4096 .f32)
    (bproj g2 b2 : FVec Ideal S1024 .f32) : FVec Ideal S2x2048x1024 .f32 := fun y =>
  block (gelu (Ideal.ofBits .f32 0x3F4C422A#32) Kblock.rc)
    (resid (fun i k => x (ix3 (y 0) i k)) (fun k => w (ix2 0 k)) (fun k => g1 (ix1 k)) (fun k => b1 (ix1 k)) (y 1))
    (fun k => g2 (ix1 k)) (fun k => b2 (ix1 k)) (fun f k => Wfc (ix2 f k)) (fun f => bfc (ix1 f))
    (fun k f => Wproj (ix2 k f)) (fun k => bproj (ix1 k)) (y 2)

/-- A row read as a matrix of one row. -/
theorem lay1024 (v : FVec Ideal S1024 .f32) (k : Fin 1024) : shapeCast S1x1024 v shapeCasts_S1024_S1x1024 (ix2 0 k) = v (ix1 k) := by
  pointwise
/-- The same over 4096 values. -/
theorem lay4096 (v : FVec Ideal S4096 .f32) (k : Fin 4096) : shapeCast S1x4096 v shapeCasts_S4096_S1x4096 (ix2 0 k) = v (ix1 k) := by
  pointwise

/-- The second kernel over the mask of the first is the whole computation. -/
theorem block_mask (x : FVec Ideal S2x2048x1024 .f32) (w : FVec Ideal S1x1024 .f32) (g1 b1 : FVec Ideal S1024 .f32)
    (Wfc : FVec Ideal S4096x1024 .f32) (bfc : FVec Ideal S4096 .f32) (Wproj : FVec Ideal S1024x4096 .f32)
    (bproj g2 b2 : FVec Ideal S1024 .f32) :
    blockOf x (maskOf x w) (shapeCast S1x1024 g1 shapeCasts_S1024_S1x1024) (shapeCast S1x1024 b1 shapeCasts_S1024_S1x1024)
      (shapeCast S1x1024 g2 shapeCasts_S1024_S1x1024) (shapeCast S1x1024 b2 shapeCasts_S1024_S1x1024) Wfc
      (shapeCast S1x4096 bfc shapeCasts_S4096_S1x4096) Wproj (shapeCast S1x1024 bproj shapeCasts_S1024_S1x1024)
      = whole x w g1 b1 Wfc bfc Wproj bproj g2 b2 := by
  funext y
  unfold blockOf whole
  simp only [lay1024, lay4096]
  congr 1
  funext k
  unfold resid maskOf
  change _ + (if Order.rank (score (fun i k => x (ix3 (y 0) i k)) (fun k => w (ix2 0 k))) (y 1) < 512 then (1 : EReal) else 0) * _ = _
  rw [ite_mul, one_mul, zero_mul]

section Run
variable (m : (ℓ : Loc nD τ sig) → Buf (Elt Ideal) ℓ) (ρ : Dev nD → PrngReg)

/-- The whole computation over the memory as launched. -/
def value (c : Dev nD) : FVec Ideal S2x2048x1024 .f32 :=
  whole (m ((c.tc : Thread nD τ).loc main_arg0)) (m ((c.tc : Thread nD τ).loc main_arg1)) (m ((c.tc : Thread nD τ).loc main_arg3))
    (m ((c.tc : Thread nD τ).loc main_arg4)) (m ((c.tc : Thread nD τ).loc main_arg8)) (m ((c.tc : Thread nD τ).loc main_arg9))
    (m ((c.tc : Thread nD τ).loc main_arg10)) (m ((c.tc : Thread nD τ).loc main_arg11)) (m ((c.tc : Thread nD τ).loc main_arg12))
    (m ((c.tc : Thread nD τ).loc main_arg13))

/-- The mask as the second kernel finds it. -/
theorem mask_in (c : Dev nD) : V2 m ρ c main_v0 = maskOf (m ((c.tc : Thread nD τ).loc main_arg0)) (m ((c.tc : Thread nD τ).loc main_arg1)) :=
  (W2_of m ρ c main_v0 (by decide)).trans ((W1_arr m ρ c 2).trans (mask (V0 m ρ) c))

/-- The first scale as the second kernel finds it. -/
theorem row_in1 (c : Dev nD) : V2 m ρ c main_v1 = (shapeCast S1x1024 (m ((c.tc : Thread nD τ).loc main_arg3) : FVec Ideal S1024 .f32) shapeCasts_S1024_S1x1024 : FVec Ideal S1x1024 .f32) := by
  rw [← W1_args m ρ c main_arg3 (by decide)]
  show StableHlo.after hostOps1 (W1 m ρ c) (Proc.devRef .tc main_v1) = _
  after_results
  rfl

/-- The first shift as the second kernel finds it. -/
theorem row_in2 (c : Dev nD) : V2 m ρ c main_v2 = (shapeCast S1x1024 (m ((c.tc : Thread nD τ).loc main_arg4) : FVec Ideal S1024 .f32) shapeCasts_S1024_S1x1024 : FVec Ideal S1x1024 .f32) := by
  rw [← W1_args m ρ c main_arg4 (by decide)]
  show StableHlo.after hostOps1 (W1 m ρ c) (Proc.devRef .tc main_v2) = _
  after_results
  rfl

/-- The second scale as the second kernel finds it. -/
theorem row_in3 (c : Dev nD) : V2 m ρ c main_v3 = (shapeCast S1x1024 (m ((c.tc : Thread nD τ).loc main_arg12) : FVec Ideal S1024 .f32) shapeCasts_S1024_S1x1024 : FVec Ideal S1x1024 .f32) := by
  rw [← W1_args m ρ c main_arg12 (by decide)]
  show StableHlo.after hostOps1 (W1 m ρ c) (Proc.devRef .tc main_v3) = _
  after_results
  rfl

/-- The second shift as the second kernel finds it. -/
theorem row_in4 (c : Dev nD) : V2 m ρ c main_v4 = (shapeCast S1x1024 (m ((c.tc : Thread nD τ).loc main_arg13) : FVec Ideal S1024 .f32) shapeCasts_S1024_S1x1024 : FVec Ideal S1x1024 .f32) := by
  rw [← W1_args m ρ c main_arg13 (by decide)]
  show StableHlo.after hostOps1 (W1 m ρ c) (Proc.devRef .tc main_v4) = _
  after_results
  rfl

/-- The hidden layer's bias as the second kernel finds it. -/
theorem row_in5 (c : Dev nD) : V2 m ρ c main_v5 = (shapeCast S1x4096 (m ((c.tc : Thread nD τ).loc main_arg9) : FVec Ideal S4096 .f32) shapeCasts_S4096_S1x4096 : FVec Ideal S1x4096 .f32) := by
  rw [← W1_args m ρ c main_arg9 (by decide)]
  show StableHlo.after hostOps1 (W1 m ρ c) (Proc.devRef .tc main_v5) = _
  after_results
  rfl

/-- The output layer's bias as the second kernel finds it. -/
theorem row_in6 (c : Dev nD) : V2 m ρ c main_v6 = (shapeCast S1x1024 (m ((c.tc : Thread nD τ).loc main_arg11) : FVec Ideal S1024 .f32) shapeCasts_S1024_S1x1024 : FVec Ideal S1x1024 .f32) := by
  rw [← W1_args m ρ c main_arg11 (by decide)]
  show StableHlo.after hostOps1 (W1 m ρ c) (Proc.devRef .tc main_v6) = _
  after_results
  rfl

/-- What the result array holds at the end. -/
theorem final (c : Dev nD) : W3 m ρ c (Proc.devRef .tc main_v7) = value m c := by
  refine (W3_arr m ρ c 11).trans ((result (V2 m ρ) c).trans ?_)
  rw [mask_in, row_in1, row_in2, row_in3, row_in4, row_in5, row_in6,
    show V2 m ρ c main_arg0 = m ((c.tc : Thread nD τ).loc main_arg0) from W2_args m ρ c main_arg0 (by decide),
    show V2 m ρ c main_arg8 = m ((c.tc : Thread nD τ).loc main_arg8) from W2_args m ρ c main_arg8 (by decide),
    show V2 m ρ c main_arg10 = m ((c.tc : Thread nD τ).loc main_arg10) from W2_args m ρ c main_arg10 (by decide)]
  exact block_mask _ _ _ _ _ _ _ _ _ _

set_option backward.isDefEq.respectTransparency.types false in
/-- Every run ends with the whole computation in the result array and the arguments as launched. -/
theorem run : θ_run defs (onTc (τ := τ) (main (F := Ideal))) ⟨m, fun _ => 0, ρ⟩ (fun r => ∀ c : Dev nD,
      r.2.mem ((c.tc : Thread nD τ).loc main_v7) = value m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ => (fun c =>
      ⟨(h c _ (mem_uc main_v7 (by decide))).trans (final m ρ c),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c),
       (h c _ (mem_uc main_arg7 (by decide))).trans (W3_main_arg7 m ρ c),
       (h c _ (mem_uc main_arg8 (by decide))).trans (W3_main_arg8 m ρ c),
       (h c _ (mem_uc main_arg9 (by decide))).trans (W3_main_arg9 m ρ c),
       (h c _ (mem_uc main_arg10 (by decide))).trans (W3_main_arg10 m ρ c),
       (h c _ (mem_uc main_arg11 (by decide))).trans (W3_main_arg11 m ρ c),
       (h c _ (mem_uc main_arg12 (by decide))).trans (W3_main_arg12 m ρ c),
       (h c _ (mem_uc main_arg13 (by decide))).trans (W3_main_arg13 m ρ c)⟩))

end Run

end Cert.KernelIdeal.Krun

end
-- ==== Proof.Rindex.lean ====
/- The reference's index operations read at an index: the positions of its top-k, the rows its gather takes and the rows its scatter sets. -/
module

public import proofs.«01_k».proof.Proof.Order
public import proofs.«01_k».proof.Proof.Gen.ReferenceIdeal.Run
public import Idealize.ShloMosaic.Lib.Pointwise
public import Idealize.ShloMosaic.Lib.Routing.OpsSet
public import Idealize.ShloMosaic.Lib.ReduceAll
public import Idealize.ShloMosaic.Lib.WordCmp

@[expose] public section

set_option maxRecDepth 16384

noncomputable section

namespace Cert.ReferenceIdeal.Rindex

open Idealize.ShloMosaic Cert.ReferenceIdeal

/-- The comparison of a top-k as a boolean. -/
theorem gt_bit (a b : EReal) : (FloatOps.cmpfTotal (F := Ideal) (φ := .f32) .gt a b == 1#1) = decide (b < a) := by
  change (Ideal.cmp CmpDirection.gt.ordered a b == 1#1) = _
  by_cases h : b < a
  · rw [decide_eq_true h]
    simp [Ideal.cmp, CmpDirection.ordered, h]
  · rw [decide_eq_false h]
    simp [Ideal.cmp, CmpDirection.ordered, h]

/-- The position of row `b` listed at place `j` of the top 512. -/
def top (x : FVec Ideal S2x2048 .f32) (b : Fin 2) (j : Fin 512) : Fin 2048 :=
  sortedFrom (Order.gtB (fun i => x (ix2 b i))) ⟨j.val, by omega⟩

/-- Replacing the second coordinate of an index. -/
theorem along_at (b : Fin 2) (i k : Fin 2048) : (ix2 b i : S2x2048.Idx).along 1 k = ix2 b k := by
  funext q
  fin_cases q <;> rfl

/-- The second result of a sort of two operands along the rows. -/
theorem sort2_at {α β : Type} (cmp : α × β → α × β → BitVec 1) (x : S2x2048.Idx → α) (y : S2x2048.Idx → β) (b : Fin 2) (i : Fin 2048) :
    (Host.sort2 S2x2048 1 cmp x y).2 (ix2 b i)
      = y (ix2 b (sortedFrom (fun k k' => cmp (x (ix2 b k), y (ix2 b k)) (x (ix2 b k'), y (ix2 b k')) == 1#1) i)) := by
  have key : ∀ L : Fin 2048 → S2x2048.Idx, L = (fun k => ix2 b k) →
      y (L (sortedFrom (fun k k' => cmp (x (L k), y (L k)) (x (L k'), y (L k')) == 1#1) i))
        = y (ix2 b (sortedFrom (fun k k' => cmp (x (ix2 b k), y (ix2 b k)) (x (ix2 b k'), y (ix2 b k')) == 1#1) i)) := by
    rintro _ rfl
    rfl
  exact key _ (funext (along_at b i))

/-- The positions of the top 512 as words. -/
theorem topk_at (x : FVec Ideal S2x2048 .f32) (h : S2x2048.Slices (fun _ => 0) S2x512) (b : Fin 2) (j : Fin 512) :
    (Host.topK S2x512 1 (FloatOps.cmpfTotal .gt) x h).2 (ix2 b j) = BitVec.ofNat 32 (top x b j).val := by
  have key : ∀ J : S2x2048.Idx, J = ix2 b ⟨j.val, by omega⟩ →
      (Host.sort2 S2x2048 1 (fun l r : EReal × BitVec 32 => FloatOps.cmpfTotal (F := Ideal) (φ := .f32) .gt l.1 r.1) x
        (iotaInDim S2x2048 32 1)).2 J = BitVec.ofNat 32 (top x b j).val := by
    rintro _ rfl
    rw [sort2_at]
    simp only [gt_bit]
    rfl
  refine key _ ?_
  funext q
  fin_cases q <;> exact Fin.ext (Nat.zero_add _)

/-- The position listed at a place has that many positions before it. -/
theorem rank_top (x : FVec Ideal S2x2048 .f32) (b : Fin 2) (j : Fin 512) : Order.rank (fun i => x (ix2 b i)) (top x b j) = j.val :=
  Order.rank_sortedFrom _ _

/-- A position among the first 512 is listed. -/
theorem top_of_rank (x : FVec Ideal S2x2048 .f32) (b : Fin 2) (i : Fin 2048) (h : Order.rank (fun i => x (ix2 b i)) i < 512) :
    ∃ j : Fin 512, top x b j = i := by
  obtain ⟨p, hp⟩ := sortedFrom_surjective (Order.gtB (fun i => x (ix2 b i))) i
  have hr := Order.rank_sortedFrom (fun i => x (ix2 b i)) p
  rw [hp] at hr
  exact ⟨⟨p.val, by omega⟩, hp⟩

/-- Where an update of the scatter lands. -/
theorem lands (idx : IVec S2x512x2 32) (a b : Fin 2) (j : Fin 512) (k c : Fin 1024) (r : Fin 2048) :
    scatter_S2x2048x1024_S2x512x2_S2x512x1024_2_01_01_2.resultIdx? (ix3 a j k) idx = some (ix3 b r c)
      ↔ (idx (ix3 a j 0)).toInt = (b.val : Int) ∧ (idx (ix3 a j 1)).toInt = (r.val : Int) ∧ k = c := by
  rw [Routing.resultIdx?_eq_some]
  have s0 : scatter_S2x2048x1024_S2x512x2_S2x512x1024_2_01_01_2.start (ix3 a j k) idx 0 = (idx (ix3 a j 0)).toInt := by
    unfold ScatterDims.start
    rw [dif_pos (by decide)]
    congr 2
    funext q
    fin_cases q <;> rfl
  have s1 : scatter_S2x2048x1024_S2x512x2_S2x512x1024_2_01_01_2.start (ix3 a j k) idx 1 = (idx (ix3 a j 1)).toInt := by
    unfold ScatterDims.start
    rw [dif_pos (by decide)]
    congr 2
    funext q
    fin_cases q <;> rfl
  have s2 : scatter_S2x2048x1024_S2x512x2_S2x512x1024_2_01_01_2.start (ix3 a j k) idx 2 = 0 := by
    unfold ScatterDims.start
    rw [dif_neg (by decide)]
  have w0 : scatter_S2x2048x1024_S2x512x2_S2x512x1024_2_01_01_2.window (ix3 a j k) 0 = 0 := by
    unfold ScatterDims.window
    rw [dif_neg (by decide)]
  have w1 : scatter_S2x2048x1024_S2x512x2_S2x512x1024_2_01_01_2.window (ix3 a j k) 1 = 0 := by
    unfold ScatterDims.window
    rw [dif_neg (by decide)]
  have w2 : scatter_S2x2048x1024_S2x512x2_S2x512x1024_2_01_01_2.window (ix3 a j k) 2 = k.val := by
    unfold ScatterDims.window
    rw [dif_pos (by decide)]
    rfl
  constructor
  · intro h
    have h0 := h 0
    have h1 := h 1
    have h2 := h 2
    rw [s0, w0] at h0
    rw [s1, w1] at h1
    rw [s2, w2] at h2
    refine ⟨?_, ?_, ?_⟩
    · simpa using h0
    · simpa using h1
    · refine Fin.ext ?_
      have : ((k.val : Int)) = c.val := by simpa using h2
      exact_mod_cast this
  · rintro ⟨h0, h1, rfl⟩ q
    match q with
    | ⟨0, _⟩ => exact (by
      show scatter_S2x2048x1024_S2x512x2_S2x512x1024_2_01_01_2.start (ix3 a j k) idx 0 + (scatter_S2x2048x1024_S2x512x2_S2x512x1024_2_01_01_2.window (ix3 a j k) 0 : Int) = _
      rw [s0, w0]
      simpa using h0)
    | ⟨1, _⟩ => exact (by
      show scatter_S2x2048x1024_S2x512x2_S2x512x1024_2_01_01_2.start (ix3 a j k) idx 1 + (scatter_S2x2048x1024_S2x512x2_S2x512x1024_2_01_01_2.window (ix3 a j k) 1 : Int) = _
      rw [s1, w1]
      simpa using h1)
    | ⟨2, _⟩ => exact (by
      show scatter_S2x2048x1024_S2x512x2_S2x512x1024_2_01_01_2.start (ix3 a j k) idx 2 + (scatter_S2x2048x1024_S2x512x2_S2x512x1024_2_01_01_2.window (ix3 a j k) 2 : Int) = _
      rw [s2, w2]
      simp)

/-- The row that the gather takes. -/
theorem gather_at (x : FVec Ideal S2x2048x1024 .f32) (idx : IVec S2x512x1 32) (a : Fin 2) (j : Fin 512) (k : Fin 1024) (r : Fin 2048)
    (h : idx (ix3 a j 0) = BitVec.ofNat 32 r.val) :
    Host.gather gather_S2x2048x1024_S2x512x1_S2x512x1024_2_1_0_0_1_2_111024 x idx (ix3 a j k) = x (ix3 a r k) := by
  unfold Host.gather
  congr 1
  have hr := r.isLt
  have s0 : gather_S2x2048x1024_S2x512x1_S2x512x1024_2_1_0_0_1_2_111024.start (ix3 a j k) idx 0 = 0 := by
    unfold GatherDims.start
    rw [dif_neg (by decide)]
  have s1 : gather_S2x2048x1024_S2x512x1_S2x512x1024_2_1_0_0_1_2_111024.start (ix3 a j k) idx 1 = r.val := by
    unfold GatherDims.start
    rw [dif_pos (by decide)]
    have e : gather_S2x2048x1024_S2x512x1_S2x512x1024_2_1_0_0_1_2_111024.siIdx (ix3 a j k) ⟨0, by decide⟩ = ix3 a j 0 := by
      funext q
      fin_cases q <;> rfl
    refine Eq.trans (congrArg (fun z => min (idx z).toInt.toNat (2048 - 1)) e) ?_
    rw [h, StableHlo.Predicate.toInt_ofNat_small _ (by omega)]
    omega
  have s2 : gather_S2x2048x1024_S2x512x1_S2x512x1024_2_1_0_0_1_2_111024.start (ix3 a j k) idx 2 = 0 := by
    unfold GatherDims.start
    rw [dif_neg (by decide)]
  have b0 : gather_S2x2048x1024_S2x512x1_S2x512x1024_2_1_0_0_1_2_111024.batchCoord (ix3 a j k) 0 = a.val := by
    unfold GatherDims.batchCoord
    rw [dif_pos (by decide)]
    rfl
  have b1 : gather_S2x2048x1024_S2x512x1_S2x512x1024_2_1_0_0_1_2_111024.batchCoord (ix3 a j k) 1 = 0 := gather_S2x2048x1024_S2x512x1_S2x512x1024_2_1_0_0_1_2_111024.batchCoord_eq_zero _ _ (by decide)
  have b2 : gather_S2x2048x1024_S2x512x1_S2x512x1024_2_1_0_0_1_2_111024.batchCoord (ix3 a j k) 2 = 0 := gather_S2x2048x1024_S2x512x1_S2x512x1024_2_1_0_0_1_2_111024.batchCoord_eq_zero _ _ (by decide)
  have o0 : gather_S2x2048x1024_S2x512x1_S2x512x1024_2_1_0_0_1_2_111024.offCoord (ix3 a j k) 0 = 0 := gather_S2x2048x1024_S2x512x1_S2x512x1024_2_1_0_0_1_2_111024.offCoord_eq_zero _ _ (by decide)
  have o1 : gather_S2x2048x1024_S2x512x1_S2x512x1024_2_1_0_0_1_2_111024.offCoord (ix3 a j k) 1 = 0 := gather_S2x2048x1024_S2x512x1_S2x512x1024_2_1_0_0_1_2_111024.offCoord_eq_zero _ _ (by decide)
  have o2 : gather_S2x2048x1024_S2x512x1_S2x512x1024_2_1_0_0_1_2_111024.offCoord (ix3 a j k) 2 = k.val := by
    unfold GatherDims.offCoord
    rw [dif_pos (by decide)]
    rfl
  funext q
  refine Fin.ext ?_
  match q with
  | ⟨0, _⟩ =>
    show gather_S2x2048x1024_S2x512x1_S2x512x1024_2_1_0_0_1_2_111024.start (ix3 a j k) idx 0 + gather_S2x2048x1024_S2x512x1_S2x512x1024_2_1_0_0_1_2_111024.batchCoord (ix3 a j k) 0 + gather_S2x2048x1024_S2x512x1_S2x512x1024_2_1_0_0_1_2_111024.offCoord (ix3 a j k) 0 = a.val
    rw [s0, b0, o0]
    omega
  | ⟨1, _⟩ =>
    show gather_S2x2048x1024_S2x512x1_S2x512x1024_2_1_0_0_1_2_111024.start (ix3 a j k) idx 1 + gather_S2x2048x1024_S2x512x1_S2x512x1024_2_1_0_0_1_2_111024.batchCoord (ix3 a j k) 1 + gather_S2x2048x1024_S2x512x1_S2x512x1024_2_1_0_0_1_2_111024.offCoord (ix3 a j k) 1 = r.val
    rw [s1, b1, o1]
    omega
  | ⟨2, _⟩ =>
    show gather_S2x2048x1024_S2x512x1_S2x512x1024_2_1_0_0_1_2_111024.start (ix3 a j k) idx 2 + gather_S2x2048x1024_S2x512x1_S2x512x1024_2_1_0_0_1_2_111024.batchCoord (ix3 a j k) 2 + gather_S2x2048x1024_S2x512x1_S2x512x1024_2_1_0_0_1_2_111024.offCoord (ix3 a j k) 2 = k.val
    rw [s2, b2, o2]
    omega

end Cert.ReferenceIdeal.Rindex

end
-- ==== Proof.Math.lean ====
/- The layer norm and the activation over the extended reals: a normalised row is always real, the two ways of dividing by a root agree, and the two forms of the activation agree on real numbers. -/
module

public import proofs.«01_k».proof.Proof.Spec
public import proofs.«01_k».proof.Proof.Consts

@[expose] public section

noncomputable section

namespace Cert.Math

open Idealize.ShloMosaic Cert.Spec

/-- A sum of reals, as an extended real. -/
theorem coe_sum {ι : Type} (s : Finset ι) (r : ι → ℝ) : ∑ k ∈ s, ((r k : ℝ) : EReal) = ((∑ k ∈ s, r k : ℝ) : EReal) := by
  classical
  induction s using Finset.induction_on with
  | empty => simp
  | insert a s ha ih => rw [Finset.sum_insert ha, Finset.sum_insert ha, ih, EReal.coe_add]

/-- A sum with no term at minus infinity is not minus infinity. -/
theorem sum_ne_bot {ι : Type} (s : Finset ι) (v : ι → EReal) (h : ∀ k ∈ s, v k ≠ ⊥) : ∑ k ∈ s, v k ≠ ⊥ := by
  classical
  induction s using Finset.induction_on with
  | empty => simp
  | insert a s ha ih =>
    rw [Finset.sum_insert ha]
    intro e
    rcases EReal.add_eq_bot_iff.mp e with e | e
    · exact h a (Finset.mem_insert_self a s) e
    · exact ih (fun k hk => h k (Finset.mem_insert_of_mem hk)) e

/-- A row is real everywhere, or its sum is infinite. -/
theorem sum_cases {ι : Type} [Fintype ι] (v : ι → EReal) : (∃ r : ι → ℝ, ∀ k, v k = (r k : EReal)) ∨ ∑ k, v k = ⊤ ∨ ∑ k, v k = ⊥ := by
  classical
  by_cases hb : ∃ k, v k = ⊥
  · obtain ⟨k, hk⟩ := hb
    right; right
    rw [← Finset.add_sum_erase Finset.univ v (Finset.mem_univ k), hk, EReal.bot_add]
  · by_cases ht : ∃ k, v k = ⊤
    · obtain ⟨k, hk⟩ := ht
      right; left
      rw [← Finset.add_sum_erase Finset.univ v (Finset.mem_univ k), hk]
      exact EReal.top_add_of_ne_bot (sum_ne_bot _ _ fun j _ e => hb ⟨j, e⟩)
    · left
      refine ⟨fun k => (v k).toReal, fun k => (EReal.coe_toReal (fun e => ht ⟨k, e⟩) (fun e => hb ⟨k, e⟩)).symm⟩

/-- Division by 1024 is a product with a positive real. -/
theorem div1024 (a : EReal) : Ideal.div a (Ideal.ofBits .f32 0x44800000#32) = a * ((1 / 1024 : ℝ) : EReal) := by
  rw [Consts.c1024]
  unfold Ideal.div
  rw [if_neg (by rw [← EReal.coe_zero, EReal.coe_eq_coe_iff]; norm_num), ← EReal.coe_inv]
  norm_num

/-- An infinite value less or plus anything is infinite, and its square is plus infinity. -/
theorem sq_sub_top (a m : EReal) (h : m = ⊤ ∨ m = ⊥) : (a - m) * (a - m) = ⊤ := by
  rcases h with rfl | rfl
  · rw [EReal.sub_top]; rfl
  · induction a using EReal.rec with
    | bot => rfl
    | coe r => rw [EReal.coe_sub_bot]; rfl
    | top => rfl

/-- A row of reals has a real mean and a variance that is a real number not below zero; any other row has an infinite variance. -/
theorem var_cases (v : Fin 1024 → EReal) :
    (∃ (r : Fin 1024 → ℝ) (m s : ℝ), 0 ≤ s ∧ (∀ k, v k = (r k : EReal)) ∧ mean v = (m : EReal) ∧ var v = (s : EReal)) ∨ var v = ⊤ := by
  have hpos : (0 : ℝ) < 1 / 1024 := by norm_num
  rcases sum_cases v with ⟨r, hr⟩ | h
  · left
    obtain ⟨m, hm⟩ : ∃ m : ℝ, mean v = (m : EReal) := ⟨(∑ k, r k) * (1 / 1024), by
      unfold mean
      rw [div1024, Finset.sum_congr rfl (fun k _ => hr k), coe_sum, EReal.coe_mul]⟩
    refine ⟨r, m, (∑ k, (r k - m) * (r k - m)) * (1 / 1024), ?_, hr, hm, ?_⟩
    · exact mul_nonneg (Finset.sum_nonneg fun k _ => mul_self_nonneg _) hpos.le
    · unfold var
      rw [hm, div1024, EReal.coe_mul, ← coe_sum]
      refine congrArg (fun a : EReal => a * ((1 / 1024 : ℝ) : EReal)) (Finset.sum_congr rfl fun k _ => ?_)
      rw [hr k, ← EReal.coe_sub, ← EReal.coe_mul]
  · right
    have hm : mean v = ⊤ ∨ mean v = ⊥ := by
      unfold mean
      rw [div1024]
      rcases h with h | h
      · left; rw [h]; exact EReal.top_mul_coe_of_pos hpos
      · right; rw [h]; exact EReal.bot_mul_coe_of_pos hpos
    have ht : ∑ k, (v k - mean v) * (v k - mean v) = ⊤ := by
      rw [Finset.sum_congr rfl (fun k _ => sq_sub_top (v k) (mean v) hm)]
      rw [← Finset.add_sum_erase Finset.univ _ (Finset.mem_univ (0 : Fin 1024))]
      exact EReal.top_add_of_ne_bot (sum_ne_bot _ _ fun j _ e => by cases e)
    unfold var
    rw [ht, div1024]
    exact EReal.top_mul_coe_of_pos hpos

/-- A normalised row is real. -/
theorem unit_real (v : Fin 1024 → EReal) (k : Fin 1024) : ∃ u : ℝ, unit v k = (u : EReal) := by
  obtain ⟨e, he, hc⟩ := Consts.eps_pos
  unfold unit
  rw [hc]
  rcases var_cases v with ⟨r, m, s, hs, hr, hm, hv⟩ | hv
  · rw [hr k, hm, hv, ← EReal.coe_add, Ideal.rsqrt_coe, if_neg (by linarith), if_neg (by linarith)]
    exact ⟨(r k - m) * (Real.sqrt (s + e))⁻¹, by rw [EReal.coe_mul, EReal.coe_sub]⟩
  · rw [hv, EReal.top_add_coe, Ideal.rsqrt_top, mul_zero]
    exact ⟨0, rfl⟩

/-- Dividing by the root of the variance plus the small constant is multiplying by its inverse root. -/
theorem unit_div (v : Fin 1024 → EReal) (k : Fin 1024) :
    Ideal.div (v k - mean v) (Ideal.sqrt (var v + Ideal.ofBits .f32 0x3727C5AC#32)) = unit v k := by
  obtain ⟨e, he, hc⟩ := Consts.eps_pos
  unfold unit
  rw [hc]
  rcases var_cases v with ⟨r, m, s, hs, hr, hm, hv⟩ | hv
  · have hp : 0 < s + e := by linarith
    have hq : Real.sqrt (s + e) ≠ 0 := (Real.sqrt_pos.mpr hp).ne'
    rw [hv, ← EReal.coe_add, Ideal.rsqrt_coe, Ideal.sqrt_coe, if_neg hp.le.not_gt, if_neg hp.le.not_gt, if_neg hp.ne']
    unfold Ideal.div
    rw [if_neg (by rw [← EReal.coe_zero, EReal.coe_eq_coe_iff]; exact hq), EReal.coe_inv]
  · rw [hv, EReal.top_add_coe, Ideal.rsqrt_top, Ideal.sqrt_top]
    unfold Ideal.div
    rw [if_neg (by decide), EReal.inv_top]

/-- With real scales, shifts and weights the hidden layer is real. -/
theorem layer_real (z : Fin 1024 → EReal) (g2 b2 : Fin 1024 → ℝ) (Wfc : Fin 4096 → Fin 1024 → ℝ) (bfc : Fin 4096 → ℝ) (f : Fin 4096) :
    ∃ h : ℝ, layer z (fun k => (g2 k : EReal)) (fun k => (b2 k : EReal)) (fun f k => (Wfc f k : EReal)) (fun f => (bfc f : EReal)) f
      = (h : EReal) := by
  choose u hu using unit_real z
  refine ⟨∑ k, (u k * g2 k + b2 k) * Wfc f k + bfc f, ?_⟩
  rw [EReal.coe_add, ← coe_sum]
  unfold layer lnorm
  refine congrArg (fun a : EReal => a + _) (Finset.sum_congr rfl fun k _ => ?_)
  rw [hu k, ← EReal.coe_mul, ← EReal.coe_add, ← EReal.coe_mul]

/-- The activation in the form of a cube under the hyperbolic tangent. -/
def cubic (h : EReal) : EReal :=
  Ideal.ofBits .f32 0x3F000000#32 * h * (Ideal.ofBits .f32 0x3F800000#32
    + Ideal.tanh (Ideal.ofBits .f32 0x3F4C422A#32 * (h + Ideal.ofBits .f32 0x3D372713#32 * Ideal.pow h (Ideal.ofBits .f32 0x40400000#32))))

/-- The two forms of the activation agree on real numbers. -/
theorem gelu_cubic (h : ℝ) :
    gelu (Ideal.ofBits .f32 0x3F4C422A#32) ((80338380498831 / 2251799813685248 : ℝ) : EReal) h = cubic h := by
  have h1 : Ideal.ofBits .f32 0x3F800000#32 = ((1 : ℝ) : EReal) := by
    simp [Ideal.ofBits, Ideal.ieee, -EReal.coe_mul]; norm_num
  unfold gelu cubic
  rw [Consts.half, Consts.root, Consts.cube, Consts.three, h1, Ideal.pow_coe_coe]
  have h3 : Real.rpow h 3 = h * h * h := by
    have := Real.rpow_natCast h 3
    push_cast at this
    calc Real.rpow h 3 = h ^ 3 := this
      _ = h * h * h := by ring
  rw [h3]
  simp only [← EReal.coe_mul, ← EReal.coe_add, Ideal.tanh_coe]
  rw [EReal.coe_eq_coe_iff]
  have ha : h * (6693141 / 8388608 + 80338380498831 / 2251799813685248 * (h * h))
      = 6693141 / 8388608 * (h + 12003091 / 268435456 * (h * h * h)) := by ring
  rw [ha]
  ring

end Cert.Math

end
-- ==== Proof.Rvalue.lean ====
/- The reference's terms read at an index: the router's scores, its layer norms, the rows set by its last scatter, and its result. -/
module

public import proofs.«01_k».proof.Proof.Rindex
public import proofs.«01_k».proof.Proof.Math
public import Idealize.ShloMosaic.Lib.Tactic.CleanTypes
public import Idealize.ShloMosaic.Lib.Tactic.WordOmega

@[expose] public section

set_option maxRecDepth 16384

noncomputable section

namespace Cert.ReferenceIdeal.Rvalue

open Idealize.ShloMosaic Cert.ReferenceIdeal Cert.ReferenceIdeal.Gen Cert.ReferenceIdeal.Value Cert.ReferenceIdeal.Rindex Cert.Spec

/-- The printed layer norm of an array's rows. -/
def normed (X : FVec Ideal S2x2048x1024 .f32) (g b : FVec Ideal S1024 .f32) : FVec Ideal S2x2048x1024 .f32 :=
  addf (mulf (Host.divf (subf X (broadcastInDim S2x2048x1024 ![0, 1, 2] bcast_S2x2048x1_S2x2048x1024_0_1_2 (Host.divf (broadcastInDim S2x2048x1 ![0, 1] bcast_S2x2048_S2x2048x1_0_1 (Host.reduceAdd X (constant (F := Ideal) S_ .f32 0x00000000#32) reducesTo_S2x2048x1024_S2x2048_d2 h_S_)) (broadcastInDim S2x2048x1 ![] bcast_S_S2x2048x1 (constant (F := Ideal) S_ .f32 0x44800000#32))))) (broadcastInDim S2x2048x1024 ![0, 1, 2] bcast_S2x2048x1_S2x2048x1024_0_1_2 (Host.sqrt (addf (select (broadcastInDim S2x2048x1 ![] bcast_S_S2x2048x1 (cmpf .ogt (subf (constant (F := Ideal) S_ .f32 0x44800000#32) (sitofp .f32 (constantI S_ 32 0#32))) (constant (F := Ideal) S_ .f32 0x00000000#32))) (Host.divf (broadcastInDim S2x2048x1 ![0, 1] bcast_S2x2048_S2x2048x1_0_1 (Host.reduceAdd (mulf (subf X (broadcastInDim S2x2048x1024 ![0, 1, 2] bcast_S2x2048x1_S2x2048x1024_0_1_2 (Host.divf (broadcastInDim S2x2048x1 ![0, 1] bcast_S2x2048_S2x2048x1_0_1 (Host.reduceAdd X (constant (F := Ideal) S_ .f32 0x00000000#32) reducesTo_S2x2048x1024_S2x2048_d2 h_S_)) (broadcastInDim S2x2048x1 ![] bcast_S_S2x2048x1 (constant (F := Ideal) S_ .f32 0x44800000#32))))) (subf X (broadcastInDim S2x2048x1024 ![0, 1, 2] bcast_S2x2048x1_S2x2048x1024_0_1_2 (Host.divf (broadcastInDim S2x2048x1 ![0, 1] bcast_S2x2048_S2x2048x1_0_1 (Host.reduceAdd X (constant (F := Ideal) S_ .f32 0x00000000#32) reducesTo_S2x2048x1024_S2x2048_d2 h_S_)) (broadcastInDim S2x2048x1 ![] bcast_S_S2x2048x1 (constant (F := Ideal) S_ .f32 0x44800000#32)))))) (constant (F := Ideal) S_ .f32 0x00000000#32) reducesTo_S2x2048x1024_S2x2048_d2 h_S_)) (broadcastInDim S2x2048x1 ![] bcast_S_S2x2048x1 (subf (constant (F := Ideal) S_ .f32 0x44800000#32) (sitofp .f32 (constantI S_ 32 0#32))))) (broadcastInDim S2x2048x1 ![] bcast_S_S2x2048x1 (id (constant (F := Ideal) S_ .f32 0x7FC00000#32)))) (broadcastInDim S2x2048x1 ![] bcast_S_S2x2048x1 (constant (F := Ideal) S_ .f32 0x3727C5AC#32)))))) (broadcastInDim S2x2048x1024 ![0, 1, 2] bcast_S1x1x1024_S2x2048x1024_0_1_2 (broadcastInDim S1x1x1024 ![2] bcast_S1024_S1x1x1024_2 g))) (broadcastInDim S2x2048x1024 ![0, 1, 2] bcast_S1x1x1024_S2x2048x1024_0_1_2 (broadcastInDim S1x1x1024 ![2] bcast_S1024_S1x1x1024_2 b))

/-- The number of columns less zero corrections is the number of columns. -/
theorem count : Ideal.ofBits .f32 0x44800000#32 - (FloatOps.sitofp (F := Ideal) .f32 (0#32 : BitVec 32) : EReal) = Ideal.ofBits .f32 0x44800000#32 := by
  have : (FloatOps.sitofp (F := Ideal) .f32 (0#32 : BitVec 32) : EReal) = (((0#32 : BitVec 32).toInt : ℝ) : EReal) := rfl
  rw [this]
  simp

/-- The number of columns is positive. -/
theorem count_pos : (0 : EReal) < Ideal.ofBits .f32 0x44800000#32 := by
  rw [Consts.c1024]
  exact_mod_cast (by norm_num : (0 : ℝ) < 1024)

/-- The printed layer norm is the layer norm of each row. -/
theorem normed_at (X : FVec Ideal S2x2048x1024 .f32) (g b : FVec Ideal S1024 .f32) (a : Fin 2) (i : Fin 2048) (k : Fin 1024) :
    normed X g b (ix3 a i k) = lnorm (fun k => X (ix3 a i k)) (fun k => g (ix1 k)) (fun k => b (ix1 k)) k := by
  pointwise [normed]
  rw [count, if_pos count_pos]
  unfold lnorm
  rw [← Math.unit_div]
  rfl

variable (V : Valuation τ sig (Elt Ideal))

/-- The first layer norm. -/
theorem v23_eq : res_main_v23 V = normed (V (Proc.devRef .tc main_arg0)) (V (Proc.devRef .tc main_arg3)) (V (Proc.devRef .tc main_arg4)) := rfl

/-- The router's scores. -/
theorem v5_at (a : Fin 2) (i : Fin 2048) :
    (res_main_v5 V : FVec Ideal S2x2048 .f32) (ix2 a i) = score (fun i k => (V (Proc.devRef .tc main_arg0) : FVec Ideal S2x2048x1024 .f32) (ix3 a i k))
      (fun k => (V (Proc.devRef .tc main_arg1) : FVec Ideal S1x1024 .f32) (ix2 0 k)) i + (V (Proc.devRef .tc main_arg2) : FVec Ideal S1 .f32) (ix1 0) := by
  unfold res_main_v5
  clean_types
  pointwise
  rfl

/-- A small word is not negative, so the wrap leaves it. -/
theorem wrap (n : Nat) (h : n < 2048) (y : BitVec 32) :
    Scalar.select (IntOp.cmpi .slt (BitVec.ofNat 32 n) 0#32) y (BitVec.ofNat 32 n) = BitVec.ofNat 32 n :=
  Routing.wrap_of_lt _ _ (by rw [BitVec.toNat_ofNat, Nat.mod_eq_of_lt (by omega)]; omega)

/-- The words that place the scatter's updates. -/
def places : IVec S2x512x2 32 :=
  concatenate S2x512x2 2 [⟨S2x512x1, (broadcastInDim S2x512x1 ![0, 1] bcast_S2x512_S2x512x1_0_1 (broadcastInDim S2x512 ![0, 1] bcast_S2x1_S2x512_0_1 (select (cmpi .slt (res_main_v52 V) (broadcastInDim S2x1 ![] bcast_S_S2x1 (constantI S_ 32 0#32))) (addi (res_main_v52 V) (broadcastInDim S2x1 ![] bcast_S_S2x1 (constantI S_ 32 2#32))) (res_main_v52 V))))⟩, ⟨S2x512x1, (broadcastInDim S2x512x1 ![0, 1] bcast_S2x512_S2x512x1_0_1 (select (cmpi .slt (res_main_indices V) (broadcastInDim S2x512 ![] bcast_S_S2x512 (constantI S_ 32 0#32))) (addi (res_main_indices V) (broadcastInDim S2x512 ![] bcast_S_S2x512 (constantI S_ 32 2048#32))) (res_main_indices V)))⟩] concatenates_S2x512x1_S2x512x1_S2x512x2_d2

/-- The listed positions. -/
abbrev pos (a : Fin 2) (j : Fin 512) : Fin 2048 := top (res_main_v5 V) a j

/-- The words of the listed positions. -/
theorem indices_at (a : Fin 2) (j : Fin 512) : (res_main_indices V : IVec S2x512 32) (ix2 a j) = BitVec.ofNat 32 (pos V a j).val :=
  topk_at _ _ a j

/-- The first word of a place is the sequence. -/
theorem places_0 (a : Fin 2) (j : Fin 512) : places V (ix3 a j 0) = BitVec.ofNat 32 a.val := by
  pointwise [places, res_main_v52]
  exact wrap a.val (by omega) _

/-- The second word of a place is the listed position. -/
theorem places_1 (a : Fin 2) (j : Fin 512) : places V (ix3 a j 1) = BitVec.ofNat 32 (pos V a j).val := by
  pointwise [places, indices_at]
  exact wrap _ (by omega) _

/-- The rows that the last scatter sets. -/
def rows : FVec Ideal S2x512x1024 .f32 :=
  select (broadcastInDim S2x512x1024 ![0, 1] bcast_S2x512_S2x512x1024_0_1 (Host.reduce IntOp.andi (andi (cmpi .sge (res_main_call6_v4 V) (broadcastInDim S2x512x1 ![] bcast_S_S2x512x1 (constantI S_ 32 0#32))) (cmpi .sle (res_main_call6_v4 V) (broadcastInDim S2x512x1 ![0, 1, 2] bcast_S1x1x1_S2x512x1_0_1_2 (broadcastInDim S1x1x1 ![2] bcast_S1_S1x1x1_2 (constantI S1 32 2047#32))))) (constantI S_ 1 1#1) reducesTo_S2x512x1_S2x512_d2 h_S_)) (Host.gather gather_S2x2048x1024_S2x512x1_S2x512x1024_2_1_0_0_1_2_111024 (res_main_v23 V) (res_main_call6_v4 V)) (broadcastInDim S2x512x1024 ![] bcast_S_S2x512x1024 (constant S_ .f32 0x7FC00000#32))

/-- The words of the rows that the last gather takes: the positions opposite to the listed ones. -/
theorem taken_at (a : Fin 2) (j : Fin 512) : (res_main_call6_v4 V : IVec S2x512x1 32) (ix3 a j 0) = BitVec.ofNat 32 (opp (pos V a j)).val := by
  unfold res_main_call6_v4 res_main_v71
  clean_types
  pointwise [indices_at]
  have hp := (pos V a j).isLt
  have e : IntOp.subi 2047#32 (BitVec.ofNat 32 (pos V a j).val) = BitVec.ofNat 32 (2047 - (pos V a j).val) := by
    generalize (pos V a j).val = n at hp
    unfold IntOp.subi
    apply BitVec.eq_of_toNat_eq
    simp only [BitVec.toNat_sub, BitVec.toNat_ofNat]
    omega
  rw [e]
  exact wrap _ (by omega) _

/-- Every such word is in range. -/
theorem inside (i : S2x512x1.Idx) :
    (andi (cmpi CmpIPredicate.sge (res_main_call6_v4 V) (broadcastInDim S2x512x1 ![] bcast_S_S2x512x1 (constantI S_ 32 0#32)))
      (cmpi CmpIPredicate.sle (res_main_call6_v4 V) (broadcastInDim S2x512x1 ![0, 1, 2] bcast_S1x1x1_S2x512x1_0_1_2
        (broadcastInDim S1x1x1 ![2] bcast_S1_S1x1x1_2 (constantI S1 32 2047#32))))) i = 1#1 := by
  obtain ⟨a, j, rfl⟩ : ∃ (a : Fin 2) (j : Fin 512), i = ix3 a j 0 := by
    idx_vars i
    exact ⟨_, _, by congr 1; exact Subsingleton.elim _ _⟩
  pointwise [taken_at]
  have hp := (opp (pos V a j)).isLt
  generalize (opp (pos V a j)).val = n at hp ⊢
  word_omega

/-- The set rows are the normalised rows opposite to the listed positions. -/
theorem rows_at (a : Fin 2) (j : Fin 512) (k : Fin 1024) : rows V (ix3 a j k) = res_main_v23 V (ix3 a (opp (pos V a j)) k) := by
  have hm : ∀ q, Host.reduce IntOp.andi (andi (cmpi CmpIPredicate.sge (res_main_call6_v4 V) (broadcastInDim S2x512x1 ![] bcast_S_S2x512x1 (constantI S_ 32 0#32)))
      (cmpi CmpIPredicate.sle (res_main_call6_v4 V) (broadcastInDim S2x512x1 ![0, 1, 2] bcast_S1x1x1_S2x512x1_0_1_2
        (broadcastInDim S1x1x1 ![2] bcast_S1_S1x1x1_2 (constantI S1 32 2047#32))))) (constantI S_ 1 1#1) reducesTo_S2x512x1_S2x512_d2 h_S_ q = 1#1 :=
    fun q => Host.reduce_andi_one _ _ _ _ q rfl (inside V)
  unfold rows
  pointwise [hm]
  exact gather_at _ _ a j k _ (taken_at V a j)

/-- The tokens as launched, as a plain function. -/
abbrev tokens (a : Fin 2) (i : Fin 2048) (k : Fin 1024) : EReal := (V (Proc.devRef .tc main_arg0) : FVec Ideal S2x2048x1024 .f32) (ix3 a i k)
/-- The router's weights. -/
abbrev router (k : Fin 1024) : EReal := (V (Proc.devRef .tc main_arg1) : FVec Ideal S1x1024 .f32) (ix2 0 k)
/-- The router's bias. -/
abbrev bias : EReal := (V (Proc.devRef .tc main_arg2) : FVec Ideal S1 .f32) (ix1 0)
/-- The first scale. -/
abbrev vec3 (k : Fin 1024) : EReal := (V (Proc.devRef .tc main_arg3) : FVec Ideal S1024 .f32) (ix1 k)
/-- The first shift. -/
abbrev vec4 (k : Fin 1024) : EReal := (V (Proc.devRef .tc main_arg4) : FVec Ideal S1024 .f32) (ix1 k)
/-- The hidden layer's weights. -/
abbrev fc (f : Fin 4096) (k : Fin 1024) : EReal := (V (Proc.devRef .tc main_arg8) : FVec Ideal S4096x1024 .f32) (ix2 f k)
/-- The hidden layer's bias. -/
abbrev fcb (f : Fin 4096) : EReal := (V (Proc.devRef .tc main_arg9) : FVec Ideal S4096 .f32) (ix1 f)
/-- The output layer's weights. -/
abbrev proj (k : Fin 1024) (f : Fin 4096) : EReal := (V (Proc.devRef .tc main_arg10) : FVec Ideal S1024x4096 .f32) (ix2 k f)
/-- The output layer's bias. -/
abbrev projb (k : Fin 1024) : EReal := (V (Proc.devRef .tc main_arg11) : FVec Ideal S1024 .f32) (ix1 k)
/-- The second scale. -/
abbrev vec12 (k : Fin 1024) : EReal := (V (Proc.devRef .tc main_arg12) : FVec Ideal S1024 .f32) (ix1 k)
/-- The second shift. -/
abbrev vec13 (k : Fin 1024) : EReal := (V (Proc.devRef .tc main_arg13) : FVec Ideal S1024 .f32) (ix1 k)

/-- With a real bias the router's ranks are those of the scores without it. -/
theorem rank_v5 (hb : ∃ c : ℝ, bias V = (c : EReal)) (a : Fin 2) (i : Fin 2048) :
    Order.rank (fun i => (res_main_v5 V : FVec Ideal S2x2048 .f32) (ix2 a i)) i = Order.rank (score (tokens V a) (router V)) i := by
  obtain ⟨c, hc⟩ := hb
  rw [← Order.rank_add_coe (score (tokens V a) (router V)) c i, ← hc]
  exact congrArg (fun r => Order.rank r i) (funext fun i => v5_at V a i)

/-- An update lands at the listed position of its own sequence. -/
theorem lands_at (a b : Fin 2) (j : Fin 512) (k c : Fin 1024) (r : Fin 2048) :
    scatter_S2x2048x1024_S2x512x2_S2x512x1024_2_01_01_2.resultIdx? (ix3 a j k) (places V) = some (ix3 b r c)
      ↔ a = b ∧ pos V a j = r ∧ k = c := by
  have ha := a.isLt
  have hp := (pos V a j).isLt
  rw [lands, places_0, places_1, StableHlo.Predicate.toInt_ofNat_small _ (by omega), StableHlo.Predicate.toInt_ofNat_small _ (by omega)]
  constructor
  · rintro ⟨h0, h1, h2⟩
    exact ⟨Fin.ext (by omega), Fin.ext (by omega), h2⟩
  · rintro ⟨rfl, h1, h2⟩
    exact ⟨rfl, by rw [h1], h2⟩

open Classical in
/-- Setting the rows over anything that an earlier scatter set at the same places of a zero array. -/
theorem scattered (u : FVec Ideal S2x512x1024 .f32) (z : FVec Ideal S2x2048x1024 .f32) (hz : ∀ i, z i = 0) (a : Fin 2) (i : Fin 2048) (k : Fin 1024) :
    Host.scatter scatter_S2x2048x1024_S2x512x2_S2x512x1024_2_01_01_2 (fun _ b => b)
        (Host.scatter scatter_S2x2048x1024_S2x512x2_S2x512x1024_2_01_01_2 (fun _ b => b) z (places V) u) (places V) (rows V) (ix3 a i k)
      = if Order.rank (fun i => (res_main_v5 V : FVec Ideal S2x2048 .f32) (ix2 a i)) i < 512 then
          (res_main_v23 V : FVec Ideal S2x2048x1024 .f32) (ix3 a (opp i) k) else (0 : EReal) := by
  split
  · next h =>
    obtain ⟨j, hj⟩ := top_of_rank (res_main_v5 V) a i h
    refine Routing.scatter_set_hit _ _ _ _ _ _ (fun q hq => ?_) (ix3 a j k) ((lands_at V a a j k k i).mpr ⟨rfl, hj, rfl⟩)
    obtain ⟨a', j', k', rfl⟩ : ∃ (a' : Fin 2) (j' : Fin 512) (k' : Fin 1024), q = ix3 a' j' k' := by
      idx_vars q
      exact ⟨_, _, _, rfl⟩
    obtain ⟨rfl, h1, rfl⟩ := (lands_at V _ _ _ _ _ _).mp hq
    rw [rows_at, h1]
  · next h =>
    have miss : ∀ q : S2x512x1024.Idx,
        scatter_S2x2048x1024_S2x512x2_S2x512x1024_2_01_01_2.resultIdx? q (places V) ≠ some (ix3 a i k) := by
      intro q hq
      obtain ⟨a', j', k', rfl⟩ : ∃ (a' : Fin 2) (j' : Fin 512) (k' : Fin 1024), q = ix3 a' j' k' := by
        idx_vars q
        exact ⟨_, _, _, rfl⟩
      obtain ⟨rfl, h1, rfl⟩ := (lands_at V _ _ _ _ _ _).mp hq
      refine h ?_
      rw [← h1]
      exact lt_of_eq_of_lt (rank_top _ _ _) j'.isLt
    rw [Routing.scatter_set_miss _ _ _ _ _ miss, Routing.scatter_set_miss _ _ _ _ _ miss, hz]

/-- The residual stream after the attention. -/
theorem v88_at (hb : ∃ c : ℝ, bias V = (c : EReal)) (a : Fin 2) (i : Fin 2048) (k : Fin 1024) :
    (res_main_v88 V : FVec Ideal S2x2048x1024 .f32) (ix3 a i k) = resid (tokens V a) (router V) (vec3 V) (vec4 V) i k := by
  refine Eq.trans (congrArg (fun w : EReal => tokens V a i k + w) (scattered V _ _ (fun i => ?_) a i k)) ?_
  · pointwise
  · unfold resid
    rw [rank_v5 V hb, v23_eq, normed_at]

/-- The hidden layer. -/
theorem v111_at (a : Fin 2) (i : Fin 2048) (f : Fin 4096) :
    (res_main_v111 V : FVec Ideal S2x2048x4096 .f32) (ix3 a i f)
      = layer (fun k => (res_main_v88 V : FVec Ideal S2x2048x1024 .f32) (ix3 a i k)) (vec12 V) (vec13 V) (fc V) (fcb V) f := by
  have e : (res_main_v111 V : FVec Ideal S2x2048x4096 .f32)
      = addf (Host.dotGeneral dot_S2x2048x1024_S1024x4096_S2x2048x4096_2_0_01_1_n_n none
          (normed (res_main_v88 V) (V (Proc.devRef .tc main_arg12)) (V (Proc.devRef .tc main_arg13)))
          (transpose S1024x4096 [1, 0] (V (Proc.devRef .tc main_arg8) : FVec Ideal S4096x1024 .f32) transposes_S4096x1024_S1024x4096_1_0))
        (broadcastInDim S2x2048x4096 ![0, 1, 2] bcast_S1x1x4096_S2x2048x4096_0_1_2
          (broadcastInDim S1x1x4096 ![2] bcast_S4096_S1x1x4096_2 (V (Proc.devRef .tc main_arg9) : FVec Ideal S4096 .f32))) := rfl
  rw [e]
  pointwise [normed_at]
  rfl

end Cert.ReferenceIdeal.Rvalue

end
-- ==== Proof.Rresult.lean ====
/- The reference's result over real parameters is the whole computation of the kernel. -/
module

public import proofs.«01_k».proof.Proof.Rvalue
public import proofs.«01_k».proof.Proof.Krun

@[expose] public section

set_option maxRecDepth 16384

noncomputable section

namespace Cert.ReferenceIdeal.Rresult

open Idealize.ShloMosaic Cert.ReferenceIdeal Cert.ReferenceIdeal.Gen Cert.ReferenceIdeal.Value Cert.ReferenceIdeal.Rvalue Cert.Spec

/-- The reference's last operations, over the residual stream, the hidden layer and the output layer's parameters. -/
def last (Z : FVec Ideal S2x2048x1024 .f32) (H : FVec Ideal S2x2048x4096 .f32) (Wp : FVec Ideal S1024x4096 .f32) (bp : FVec Ideal S1024 .f32) :
    FVec Ideal S2x2048x1024 .f32 :=
  addf Z (addf (Host.dotGeneral dot_S2x2048x4096_S4096x1024_S2x2048x1024_2_0_01_1_n_n none (mulf (mulf (broadcastInDim S2x2048x4096 ![] bcast_S_S2x2048x4096 (constant (F := Ideal) S_ .f32 0x3F000000#32)) H) (addf (broadcastInDim S2x2048x4096 ![] bcast_S_S2x2048x4096 (constant (F := Ideal) S_ .f32 0x3F800000#32)) (Host.tanh (mulf (broadcastInDim S2x2048x4096 ![] bcast_S_S2x2048x4096 (constant (F := Ideal) S_ .f32 0x3F4C422A#32)) (addf H (mulf (broadcastInDim S2x2048x4096 ![] bcast_S_S2x2048x4096 (constant (F := Ideal) S_ .f32 0x3D372713#32)) (Host.powf H (broadcastInDim S2x2048x4096 ![] bcast_S_S2x2048x4096 (constant (F := Ideal) S_ .f32 0x40400000#32))))))))) (transpose S4096x1024 [1, 0] Wp transposes_S1024x4096_S4096x1024_1_0)) (broadcastInDim S2x2048x1024 ![0, 1, 2] bcast_S1x1x1024_S2x2048x1024_0_1_2 (broadcastInDim S1x1x1024 ![2] bcast_S1024_S1x1x1024_2 bp)))

variable (V : Valuation τ sig (Elt Ideal))

/-- The reference's result as printed. -/
def printed : FVec Ideal S2x2048x1024 .f32 :=
  last (res_main_v88 V) (res_main_v111 V) (V (Proc.devRef .tc main_arg10)) (V (Proc.devRef .tc main_arg11))

/-- The activation with the power, over anything. -/
def act (h : EReal) : EReal :=
  Ideal.ofBits .f32 0x3F000000#32 * h * (Ideal.ofBits .f32 0x3F800000#32 + Ideal.tanh (Ideal.ofBits .f32 0x3F4C422A#32 * (h + Ideal.ofBits .f32 0x3D372713#32 * Ideal.pow h (Ideal.ofBits .f32 0x40400000#32))))

/-- The last operations at an index. -/
theorem last_at (Z : FVec Ideal S2x2048x1024 .f32) (H : FVec Ideal S2x2048x4096 .f32) (Wp : FVec Ideal S1024x4096 .f32) (bp : FVec Ideal S1024 .f32)
    (a : Fin 2) (i : Fin 2048) (k : Fin 1024) :
    last Z H Wp bp (ix3 a i k) = Z (ix3 a i k) + (∑ f, act (H (ix3 a i f)) * Wp (ix2 k f) + bp (ix1 k)) := by
  have one : Ideal.ofBits .f32 0x3F800000#32 = 1 := by
    simp [Ideal.ofBits, Ideal.ieee, -EReal.coe_mul]; norm_num
  unfold act
  rw [one]
  pointwise [last]

/-- The printed result at an index is the block over its activation. -/
theorem printed_at (hb : ∃ c : ℝ, bias V = (c : EReal)) (a : Fin 2) (i : Fin 2048) (k : Fin 1024) :
    printed V (ix3 a i k) = block act (resid (tokens V a) (router V) (vec3 V) (vec4 V) i) (vec12 V) (vec13 V) (fc V) (fcb V) (proj V) (projb V) k := by
  have e : resid (tokens V a) (router V) (vec3 V) (vec4 V) i = fun k => (res_main_v88 V : FVec Ideal S2x2048x1024 .f32) (ix3 a i k) :=
    funext fun k => (v88_at V hb a i k).symm
  rw [e]
  refine (last_at _ _ _ _ a i k).trans ?_
  unfold block
  exact congrArg (fun s : EReal => HAdd.hAdd (α := EReal) (β := EReal) (γ := EReal) ((res_main_v88 V : FVec Ideal S2x2048x1024 .f32) (ix3 a i k)) (s + projb V k))
    (Finset.sum_congr rfl fun f _ => congrArg (fun h => act h * proj V k f) (v111_at V a i f))

/-- Over real parameters the hidden layer is real, and there the two activations agree. -/
theorem block_act (z g2 b2 : Fin 1024 → EReal) (Wfc : Fin 4096 → Fin 1024 → EReal) (bfc : Fin 4096 → EReal)
    (Wproj : Fin 1024 → Fin 4096 → EReal) (bproj : Fin 1024 → EReal) (k : Fin 1024)
    (hg : ∀ k, ∃ c : ℝ, g2 k = c) (hb : ∀ k, ∃ c : ℝ, b2 k = c) (hw : ∀ f k, ∃ c : ℝ, Wfc f k = c) (hf : ∀ f, ∃ c : ℝ, bfc f = c) :
    block act z g2 b2 Wfc bfc Wproj bproj k
      = block (gelu (Ideal.ofBits .f32 0x3F4C422A#32) Cert.KernelIdeal.Kblock.rc) z g2 b2 Wfc bfc Wproj bproj k := by
  choose g hg using hg
  choose b hb using hb
  choose w hw using hw
  choose c hf using hf
  obtain rfl : g2 = fun k => (g k : EReal) := funext hg
  obtain rfl : b2 = fun k => (b k : EReal) := funext hb
  obtain rfl : Wfc = fun f k => (w f k : EReal) := funext fun f => funext (hw f)
  obtain rfl : bfc = fun f => (c f : EReal) := funext hf
  unfold block
  refine congrArg (fun s : EReal => z k + (s + bproj k)) (Finset.sum_congr rfl fun f _ => congrArg (· * Wproj k f) ?_)
  obtain ⟨h, hh⟩ := Math.layer_real z g b w c f
  rw [hh]
  exact (Math.gelu_cubic h).symm

/-- Over real parameters the printed result is the whole computation of the arrays as launched. -/
theorem printed_eq (hr : ∃ c : ℝ, bias V = (c : EReal)) (hg : ∀ k, ∃ c : ℝ, vec12 V k = c) (hb : ∀ k, ∃ c : ℝ, vec13 V k = c)
    (hw : ∀ f k, ∃ c : ℝ, fc V f k = c) (hf : ∀ f, ∃ c : ℝ, fcb V f = c) :
    printed V = Cert.KernelIdeal.Krun.whole (V (Proc.devRef .tc main_arg0)) (V (Proc.devRef .tc main_arg1)) (V (Proc.devRef .tc main_arg3))
      (V (Proc.devRef .tc main_arg4)) (V (Proc.devRef .tc main_arg8)) (V (Proc.devRef .tc main_arg9)) (V (Proc.devRef .tc main_arg10))
      (V (Proc.devRef .tc main_arg11)) (V (Proc.devRef .tc main_arg12)) (V (Proc.devRef .tc main_arg13)) := by
  funext y
  obtain ⟨a, i, k, rfl⟩ : ∃ (a : Fin 2) (i : Fin 2048) (k : Fin 1024), y = ix3 a i k := by
    idx_vars y
    exact ⟨_, _, _, rfl⟩
  rw [printed_at V hr, block_act _ _ _ _ _ _ _ _ hg hb hw hf]
  rfl

end Cert.ReferenceIdeal.Rresult

end
-- ==== Proof.Pre.lean ====
/- What the precondition says: the parameters it names are real numbers. -/
module

public import proofs.«01_k».proof.Pre_finite_params
public import proofs.«01_k».proof.Proof.Consts
public import Idealize.ShloMosaic.Lib.ReduceAll

@[expose] public section

noncomputable section

namespace Cert.Pre_finite_params.Reals

open Idealize.ShloMosaic Cert.Pre_finite_params

/-- A value whose magnitude is below infinity is a real number. -/
theorem real_of_lt (v : EReal) (h : max v (-v) < ⊤) : ∃ c : ℝ, v = (c : EReal) := by
  induction v using EReal.rec with
  | bot => simp at h
  | top => simp at h
  | coe c => exact ⟨c, rfl⟩

/-- A comparison's bit for a magnitude below infinity. -/
theorem real_of_bit {s : Shape} (x : FVec Ideal s .f32) (y : FVec Ideal s .f32) (i : s.Idx) (hy : y i = ⊤)
    (h : cmpf .olt (Host.absf x) y i = 1#1) : ∃ c : ℝ, x i = (c : EReal) := by
  refine real_of_lt _ ?_
  have h' : BitVec.ofBool (decide (max (x i) (-(x i)) < y i)) = 1#1 := h
  rw [hy] at h'
  by_contra hn
  rw [decide_eq_false hn] at h'
  exact absurd h' (by decide)

/-- The conjunction of two bits is one only when both are. -/
theorem both {s : Shape} {a b : IVec s 1} {i : s.Idx} (h : andi a b i = 1#1) : a i = 1#1 ∧ b i = 1#1 := by
  have h' : a i &&& b i = 1#1 := h
  generalize a i = p at h' ⊢
  generalize b i = q at h' ⊢
  revert p q
  decide

variable [Cert.Pre_finite_params.Facts]

/-- The broadcast infinity is infinity. -/
theorem top_at {t : Shape} (dims : Fin S_.rank → Fin t.rank) (h : S_.BroadcastsInDim t dims) (i : t.Idx) :
    broadcastInDim t dims h (constant (F := Ideal) S_ .f32 0x7F800000#32) i = (⊤ : EReal) := Consts.inf

/-- The precondition gives real values at every index of the five arrays. -/
theorem reals (x : FVec Ideal S2x2048x1024 .f32) (w : FVec Ideal S1x1024 .f32) (br : FVec Ideal S1 .f32) (g1 b1 : FVec Ideal S1024 .f32)
    (wq wk wv : FVec Ideal S2048x1024 .f32) (Wfc : FVec Ideal S4096x1024 .f32) (bfc : FVec Ideal S4096 .f32)
    (Wp : FVec Ideal S1024x4096 .f32) (bp g2 b2 : FVec Ideal S1024 .f32) (j : S_.Idx)
    (h : fn x w br g1 b1 wq wk wv Wfc bfc Wp bp g2 b2 j = 1#1) :
    (∀ i, ∃ c : ℝ, br i = (c : EReal)) ∧ (∀ i, ∃ c : ℝ, g2 i = (c : EReal)) ∧ (∀ i, ∃ c : ℝ, b2 i = (c : EReal))
      ∧ (∀ i, ∃ c : ℝ, Wfc i = (c : EReal)) ∧ (∀ i, ∃ c : ℝ, bfc i = (c : EReal)) := by
  haveI : Subsingleton S_.Idx := ⟨fun a b => funext fun d => d.elim0⟩
  dsimp only [fn, fn_part1] at h
  obtain ⟨h, h5⟩ := both h
  obtain ⟨h, h4⟩ := both h
  obtain ⟨h, h3⟩ := both h
  obtain ⟨h1, h2⟩ := both h
  exact ⟨fun i => real_of_bit _ _ i (top_at _ _ i) (Host.reduce_andi_all _ _ _ _ j h1 i),
    fun i => real_of_bit _ _ i (top_at _ _ i) (Host.reduce_andi_all _ _ _ _ j h2 i),
    fun i => real_of_bit _ _ i (top_at _ _ i) (Host.reduce_andi_all _ _ _ _ j h3 i),
    fun i => real_of_bit _ _ i (top_at _ _ i) (Host.reduce_andi_all _ _ _ _ j h4 i),
    fun i => real_of_bit _ _ i (top_at _ _ i) (Host.reduce_andi_all _ _ _ _ j h5 i)⟩

end Cert.Pre_finite_params.Reals

end
-- ==== Proof.Claims.lean ====
/- The certificate's claims, one theorem each. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.Pre_finite_params
public import proofs.«01_k».proof.Proof.Krun
public import proofs.«01_k».proof.Proof.Rresult
public import proofs.«01_k».proof.Proof.Pre
public import Idealize.ShloMosaic.Lib.Quiescent

@[expose] public section

set_option maxRecDepth 16384

noncomputable section

namespace Cert.Proof.Claims

open Idealize.ShloMosaic Idealize.SL.Sem

/-- The kernel runs and leaves its arguments. -/
theorem frame_p : Cert.quiescent_Kernel := fun m ρ _ => Cert.Kernel.Gen.frame m ρ

/-- The kernel over the extended reals runs and leaves its arguments. -/
theorem frame_pi : Cert.quiescent_KernelIdeal := fun m ρ _ => Cert.KernelIdeal.Gen.frame m ρ

/-- The same under the precondition. -/
theorem frame_pi_pre : Cert.quiescent_KernelIdeal_pre_finite_params := fun m ρ _ => Cert.KernelIdeal.Gen.frame m ρ

/-- The reference runs and leaves its arguments. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same under the precondition. -/
theorem frame_ri_pre : Cert.quiescent_ReferenceIdeal_pre_finite_params := fun m ρ _ => frame_ri m ρ trivial

/-- The named constant stands for the exact product of the reference's two constants. -/
theorem preserves : Cert.preserves_Kernel_KernelIdeal :=
  IdealRules.named_const.statement Cert.KernelIdeal.κ "root_times_cube" .f32 0x3D122279#32 ((80338380498831 / 2251799813685248 : ℝ) : EReal) rfl

/-- From arguments that agree the kernel and the reference end with equal results. -/
theorem algebraic : Cert.algebraic_KernelIdeal_ReferenceIdeal_pre_finite_params := by
  intro m ρ m' ρ' hpre hagree
  refine ⟨Cert.KernelIdeal.Krun.value m, Cert.KernelIdeal.Krun.run m ρ, ?_⟩
  refine (θ_run Cert.ReferenceIdeal.defs _ _).mono (fun _ h c => ⟨(h c).1.trans ?_, (h c).2⟩)
    (Cert.ReferenceIdeal.Value.run (F := Ideal) m' ρ')
  obtain ⟨hr, hg, hb, hw, hf⟩ := Cert.Pre_finite_params.Reals.reals _ _ _ _ _ _ _ _ _ _ _ _ _ _ (fun d => d.elim0) (congrFun (hpre c) _)
  obtain ⟨e0, e1, e2, e3, e4, -, -, -, e8, e9, e10, e11, e12, e13⟩ := hagree c
  rw [← e2] at hr
  rw [← e12] at hg
  rw [← e13] at hb
  rw [← e8] at hw
  rw [← e9] at hf
  refine (Cert.ReferenceIdeal.Rresult.printed_eq (StableHlo.launchContents m' c) (hr _) (fun k => hg _) (fun k => hb _)
    (fun f k => hw _) (fun f => hf _)).trans ?_
  unfold Cert.KernelIdeal.Krun.value
  rw [← e0, ← e1, ← e3, ← e4, ← e8, ← e9, ← e10, ← e11, ← e12, ← e13]

end Cert.Proof.Claims

end
-- ==== Proof.lean ====
module

public import proofs.«01_k».proof.Defs
public import proofs.«01_k».proof.Proof.Claims
public import proofs.«01_k».proof.Proof.Gen.Kernel
public import proofs.«01_k».proof.Proof.Gen.KernelIdeal
public import proofs.«01_k».proof.Proof.Gen.ReferenceIdeal
public import proofs.«01_k».proof.Proof.Gen.Pre_finite_params
public import Idealize.ShloMosaic.Adequacy
public import Idealize.ShloMosaic.Init

@[expose] public section

noncomputable section

namespace Cert.Proof

open Idealize.ShloMosaic Idealize.SL.Sem

/-- The certificate. -/
theorem claim : Cert.Claim :=
  ⟨Cert.Kernel.Gen.facts, Cert.KernelIdeal.Gen.facts, Cert.ReferenceIdeal.Gen.facts, Cert.Pre_finite_params.Gen.facts,
    Claims.frame_p, Claims.frame_pi, Claims.frame_pi_pre, Claims.frame_ri, Claims.frame_ri_pre, Claims.preserves, Claims.algebraic⟩

end Cert.Proof

end
